-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_boundaries [hPre_all_boundaries : Cert.Pre_all_boundaries.Facts] (m : (ℓ : Loc Cert.KernelIdeal.nD Cert.KernelIdeal.τ Cert.KernelIdeal.sig) → Buf (Elt Ideal) ℓ) : Prop :=
  ∀ c : Dev Cert.KernelIdeal.nD,
    (Cert.Pre_all_boundaries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_boundaries [hPre_all_boundaries : Cert.Pre_all_boundaries.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_boundaries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_all_boundaries [hKernelIdeal : Cert.KernelIdeal.Facts] [hPre_all_boundaries : Cert.Pre_all_boundaries.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_boundaries m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_all_boundaries [hReferenceIdeal : Cert.ReferenceIdeal.Facts] [hPre_all_boundaries : Cert.Pre_all_boundaries.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_boundaries m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_all_boundaries [hKernelIdeal : Cert.KernelIdeal.Facts] [hReferenceIdeal : Cert.ReferenceIdeal.Facts] [hPre_all_boundaries : Cert.Pre_all_boundaries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_boundaries m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_all_boundaries : Cert.Pre_all_boundaries.Facts),
    quiescent_Kernel (hKernel := hKernel)
    ∧ quiescent_KernelIdeal (hKernelIdeal := hKernelIdeal)
    ∧ quiescent_KernelIdeal_pre_all_boundaries (hKernelIdeal := hKernelIdeal) (hPre_all_boundaries := hPre_all_boundaries)
    ∧ quiescent_ReferenceIdeal (hReferenceIdeal := hReferenceIdeal)
    ∧ quiescent_ReferenceIdeal_pre_all_boundaries (hReferenceIdeal := hReferenceIdeal) (hPre_all_boundaries := hPre_all_boundaries)
    ∧ preserves_Kernel_KernelIdeal
    ∧ algebraic_KernelIdeal_ReferenceIdeal_pre_all_boundaries (hKernelIdeal := hKernelIdeal) (hReferenceIdeal := hReferenceIdeal) (hPre_all_boundaries := hPre_all_boundaries)
-- ==== Pre_all_boundaries.lean ====
abbrev S8x2048x2048 : Shape := ⟨3, ![8, 2048, 2048]⟩
abbrev S8x2048 : Shape := ⟨2, ![8, 2048]⟩

class Facts : Prop where

variable [Facts]

def fn {F : FTy → Type} [FloatOps F] (main_arg0 : FVec F S8x2048x2048 .f32) (main_arg1 : IVec S8x2048 1) (main_arg2 : FVec F S8x2048 .f32) (main_arg3 : IVec S8x2048 1) : IVec S8x2048 1 :=
  main_arg1
-- ==== Kernel.lean ====
abbrev S8x2048x2048 : Shape := ⟨3, ![8, 2048, 2048]⟩
abbrev S8x2048 : Shape := ⟨2, ![8, 2048]⟩
abbrev S8x2x1x1024 : Shape := ⟨4, ![8, 2, 1, 1024]⟩
abbrev S1x1x1x1024 : Shape := ⟨4, ![1, 1, 1, 1024]⟩
abbrev S1x1024x2048 : Shape := ⟨3, ![1, 1024, 2048]⟩
abbrev S256x256 : Shape := ⟨2, ![256, 256]⟩
abbrev S1x2048 : Shape := ⟨2, ![1, 2048]⟩
abbrev S1x1x1x256 : Shape := ⟨4, ![1, 1, 1, 256]⟩
abbrev S1x256 : Shape := ⟨2, ![1, 256]⟩
abbrev S1x256x2048 : Shape := ⟨3, ![1, 256, 2048]⟩
abbrev S256x2048 : Shape := ⟨2, ![256, 2048]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S8x2048x2048, .f32⟩
  | .hbm, ⟨1, _⟩ => ⟨S8x2048, .i1⟩
  | .hbm, ⟨2, _⟩ => ⟨S8x2048, .f32⟩
  | .hbm, ⟨3, _⟩ => ⟨S8x2048, .i1⟩
  | .hbm, ⟨4, _⟩ => ⟨S8x2x1x1024, .f32⟩
  | .hbm, ⟨5, _⟩ => ⟨S8x2048x2048, .f32⟩
  | .local _ .vmem, ⟨0, _⟩ => ⟨S1x1x1x1024, .f32⟩
  | .local _ .vmem, ⟨1, _⟩ => ⟨S1x1x1x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1024x2048, .f32⟩
  | .local _ .vmem, ⟨5, _⟩ => ⟨S1x1024x2048, .f32⟩
  | .local _ .vmem, ⟨6, _⟩ => ⟨S8x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8x2048x2048 : Shape := ⟨3, ![8, 2048, 2048]⟩
abbrev S8x2048 : Shape := ⟨2, ![8, 2048]⟩
abbrev S_ : Shape := ⟨0, ![]⟩
abbrev S2048 : Shape := ⟨1, ![2048]⟩
abbrev S1x2048 : Shape := ⟨2, ![1, 2048]⟩
abbrev S8x2048x1 : Shape := ⟨3, ![8, 2048, 1]⟩
abbrev S1 : Shape := ⟨1, ![1]⟩
abbrev S1x1x1 : Shape := ⟨3, ![1, 1, 1]⟩
abbrev S2048x8 : Shape := ⟨2, ![2048, 8]⟩
abbrev S2048x8x2048 : Shape := ⟨3, ![2048, 8, 2048]⟩
abbrev S1x8 : Shape := ⟨2, ![1, 8]⟩
abbrev S8 : Shape := ⟨1, ![8]⟩
abbrev S1x8x2048 : Shape := ⟨3, ![1, 8, 2048]⟩
abbrev S8x1 : Shape := ⟨2, ![8, 1]⟩

abbrev nBuf : Space → Nat
  | .hbm => 134
  | .vmem => 0
  | .smem => 0
  | _ => 0

abbrev hbmTy0_0 (i : Nat) : BufTy := match i % 128 with
  | 0 => ⟨S8x2048x2048, .f32⟩
  | 1 => ⟨S8x2048, .i1⟩
  | 2 => ⟨S8x2048, .f32⟩
  | 3 => ⟨S8x2048, .i1⟩
  | 4 => ⟨S_, .f32⟩
  | 5 => ⟨S_, .f32⟩
  | 6 => ⟨S_, .f32⟩
  | 7 => ⟨S8x2048, .f32⟩
  | 8 => ⟨S8x2048, .f32⟩
  | 9 => ⟨S_, .f32⟩
  | 10 => ⟨S8x2048, .f32⟩
  | 11 => ⟨S8x2048, .f32⟩
  | 12 => ⟨S2048, .i32⟩
  | 13 => ⟨S1x2048, .i32⟩
  | 14 => ⟨S8x2048, .i1⟩
  | 15 => ⟨S8x2048, .i32⟩
  | 16 => ⟨S_, .i32⟩
  | 17 => ⟨S8x2048, .i32⟩
  | 18 => ⟨S8x2048, .i32⟩
  | 19 => ⟨S8x2048, .i32⟩
  | 20 => ⟨S8x2048, .i32⟩
  | 21 => ⟨S8x2048, .i32⟩
  | 22 => ⟨S8x2048, .i32⟩
  | 23 => ⟨S8x2048, .i32⟩
  | 24 => ⟨S_, .i32⟩
  | 25 => ⟨S8x2048, .i32⟩
  | 26 => ⟨S8x2048, .i1⟩
  | 27 => ⟨S_, .i32⟩
  | 28 => ⟨S8x2048, .i32⟩
  | 29 => ⟨S8x2048, .i32⟩
  | 30 => ⟨S8x2048, .i32⟩
  | 31 => ⟨S8x2048x1, .i32⟩
  | 32 => ⟨S1, .i32⟩
  | 33 => ⟨S_, .i32⟩
  | 34 => ⟨S8x2048x1, .i32⟩
  | 35 => ⟨S8x2048x1, .i1⟩
  | 36 => ⟨S1x1x1, .i32⟩
  | 37 => ⟨S8x2048x1, .i32⟩
  | 38 => ⟨S8x2048x1, .i1⟩
  | 39 => ⟨S8x2048x1, .i1⟩
  | 40 => ⟨S_, .i1⟩
  | 41 => ⟨S8x2048, .i1⟩
  | 42 => ⟨S8x2048, .f32⟩
  | 43 => ⟨S_, .f32⟩
  | 44 => ⟨S8x2048, .f32⟩
  | 45 => ⟨S8x2048, .f32⟩
  | 46 => ⟨S_, .f32⟩
  | 47 => ⟨S_, .f32⟩
  | 48 => ⟨S_, .f32⟩
  | 49 => ⟨S8x2048, .f32⟩
  | 50 => ⟨S8x2048, .f32⟩
  | 51 => ⟨S_, .f32⟩
  | 52 => ⟨S8x2048, .f32⟩
  | 53 => ⟨S8x2048, .f32⟩
  | 54 => ⟨S_, .f32⟩
  | 55 => ⟨S8x2048, .f32⟩
  | 56 => ⟨S8x2048, .f32⟩
  | 57 => ⟨S_, .f32⟩
  | 58 => ⟨S8x2048, .f32⟩
  | 59 => ⟨S8x2048, .f32⟩
  | 60 => ⟨S8x2048, .f32⟩
  | 61 => ⟨S8x2048x1, .f32⟩
  | 62 => ⟨S8x2048x2048, .f32⟩
  | 63 => ⟨S8x2048x2048, .f32⟩
  | 64 => ⟨S8x2048x1, .f32⟩
  | 65 => ⟨S8x2048x2048, .f32⟩
  | 66 => ⟨S8x2048x2048, .f32⟩
  | 67 => ⟨S_, .f32⟩
  | 68 => ⟨S8x2048, .f32⟩
  | 69 => ⟨S2048x8, .f32⟩
  | 70 => ⟨S2048x8x2048, .f32⟩
  | 71 => ⟨S_, .f32⟩
  | 72 => ⟨S2048x8x2048, .f32⟩
  | 73 => ⟨S_, .i32⟩
  | 74 => ⟨S2048x8, .f32⟩
  | 75 => ⟨S2048x8x2048, .f32⟩
  | 76 => ⟨S_, .i32⟩
  | 77 => ⟨S8x2048, .f32⟩
  | 78 => ⟨S2048x8x2048, .f32⟩
  | 79 => ⟨S_, .i32⟩
  | 80 => ⟨S_, .i1⟩
  | 81 => ⟨S_, .i32⟩
  | 82 => ⟨S1x8, .f32⟩
  | 83 => ⟨S8, .f32⟩
  | 84 => ⟨S_, .i32⟩
  | 85 => ⟨S_, .i32⟩
  | 86 => ⟨S1x8x2048, .f32⟩
  | 87 => ⟨S8x2048, .f32⟩
  | 88 => ⟨S_, .f32⟩
  | 89 => ⟨S8, .f32⟩
  | 90 => ⟨S8, .f32⟩
  | 91 => ⟨S8x1, .f32⟩
  | 92 => ⟨S8x2048, .f32⟩
  | 93 => ⟨S8x2048, .f32⟩
  | 94 => ⟨S8x1, .f32⟩
  | 95 => ⟨S8x2048, .f32⟩
  | 96 => ⟨S8x2048, .f32⟩
  | 97 => ⟨S8x2048, .f32⟩
  | 98 => ⟨S1x8x2048, .f32⟩
  | 99 => ⟨S_, .i32⟩
  | 100 => ⟨S_, .i32⟩
  | 101 => ⟨S2048x8x2048, .f32⟩
  | 102 => ⟨S_, .i32⟩
  | 103 => ⟨S_, .i32⟩
  | 104 => ⟨S8x2048x2048, .f32⟩
  | 105 => ⟨S8x2048, .i32⟩
  | 106 => ⟨S_, .i32⟩
  | 107 => ⟨S8x2048, .i32⟩
  | 108 => ⟨S_, .i32⟩
  | 109 => ⟨S8x2048, .i32⟩
  | 110 => ⟨S8x2048, .i32⟩
  | 111 => ⟨S_, .i32⟩
  | 112 => ⟨S8x2048, .i32⟩
  | 113 => ⟨S8x2048, .i1⟩
  | 114 => ⟨S_, .i32⟩
  | 115 => ⟨S8x2048, .i32⟩
  | 116 => ⟨S8x2048, .i32⟩
  | 117 => ⟨S8x2048, .i32⟩
  | 118 => ⟨S8x2048x1, .i32⟩
  | 119 => ⟨S1, .i32⟩
  | 120 => ⟨S_, .i32⟩
  | 121 => ⟨S8x2048x1, .i32⟩
  | 122 => ⟨S8x2048x1, .i1⟩
  | 123 => ⟨S1x1x1, .i32⟩
  | 124 => ⟨S8x2048x1, .i32⟩
  | 125 => ⟨S8x2048x1, .i1⟩
  | 126 => ⟨S8x2048x1, .i1⟩
  | 127 => ⟨S_, .i1⟩
  | _ => ⟨S8x2048x2048, .f32⟩

abbrev hbmTy0_1 (i : Nat) : BufTy := match i % 128 with
  | 0 => ⟨S8x2048, .i1⟩
  | 1 => ⟨S8x2048x2048, .f32⟩
  | 2 => ⟨S8x2048x2048, .i1⟩
  | 3 => ⟨S_, .f32⟩
  | 4 => ⟨S8x2048x2048, .f32⟩
  | 5 => ⟨S8x2048x2048, .f32⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1_0 : Ref sig .tc := ⟨.hbm, 22, rfl⟩
abbrev main_v9 : Ref sig .tc := ⟨.hbm, 23, rfl⟩
abbrev main_call2_c : Ref sig .tc := ⟨.hbm, 24, rfl⟩
abbrev main_call2_v0 : Ref sig .tc := ⟨.hbm, 25, rfl⟩
abbrev main_call2_v1 : Ref sig .tc := ⟨.hbm, 26, rfl⟩
abbrev main_call2_c_0 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_c_1 : Ref sig .tc := ⟨.hbm, 32, rfl⟩
abbrev main_call2_c_2 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_call2_c_3 : Ref sig .tc := ⟨.hbm, 40, rfl⟩
abbrev main_call2_v12 : Ref sig .tc := ⟨.hbm, 41, rfl⟩
abbrev main_call2_v13 : Ref sig .tc := ⟨.hbm, 42, rfl⟩
abbrev main_call2_cst : Ref sig .tc := ⟨.hbm, 43, rfl⟩
abbrev main_call2_v14 : Ref sig .tc := ⟨.hbm, 44, rfl⟩
abbrev main_v10 : Ref sig .tc := ⟨.hbm, 45, rfl⟩
abbrev main_cst_1 : Ref sig .tc := ⟨.hbm, 46, rfl⟩
abbrev main_cst_2 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_v11 : Ref sig .tc := ⟨.hbm, 53, rfl⟩
abbrev main_cst_3 : Ref sig .tc := ⟨.hbm, 54, rfl⟩
abbrev main_v12 : Ref sig .tc := ⟨.hbm, 55, rfl⟩
abbrev main_v13 : Ref sig .tc := ⟨.hbm, 56, rfl⟩
abbrev main_cst_4 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_cst_5 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_cst_6 : Ref sig .tc := ⟨.hbm, 71, rfl⟩
abbrev main_v26 : Ref sig .tc := ⟨.hbm, 72, rfl⟩
abbrev main_c_7 : Ref sig .tc := ⟨.hbm, 73, rfl⟩
abbrev main_v27_0 : Ref sig .tc := ⟨.hbm, 74, rfl⟩
abbrev main_v27_1 : Ref sig .tc := ⟨.hbm, 75, rfl⟩
abbrev main_v27_2 : Ref sig .tc := ⟨.hbm, 76, rfl⟩
abbrev main_v27_3 : Ref sig .tc := ⟨.hbm, 77, rfl⟩
abbrev main_v27_4 : Ref sig .tc := ⟨.hbm, 78, rfl⟩
abbrev main_while0c_c_20 : Ref sig .tc := ⟨.hbm, 79, rfl⟩
abbrev main_while0c_v50 : Ref sig .tc := ⟨.hbm, 80, rfl⟩
abbrev main_while0b_call4_c : Ref sig .tc := ⟨.hbm, 81, rfl⟩
abbrev main_while0b_call4_v0 : Ref sig .tc := ⟨.hbm, 82, rfl⟩
abbrev main_while0b_v50 : Ref sig .tc := ⟨.hbm, 83, rfl⟩
abbrev main_while0b_call5_c : Ref sig .tc := ⟨.hbm, 84, rfl⟩
abbrev main_while0b_call5_c_0 : Ref sig .tc := ⟨.hbm, 85, rfl⟩
abbrev main_while0b_call5_v0 : Ref sig .tc := ⟨.hbm, 86, rfl⟩
abbrev main_while0b_v51 : Ref sig .tc := ⟨.hbm, 87, rfl⟩
abbrev main_while0b_cst_20 : Ref sig .tc := ⟨.hbm, 88, rfl⟩
abbrev main_while0b_v52 : Ref sig .tc := ⟨.hbm, 89, rfl⟩
abbrev main_while0b_v53 : Ref sig .tc := ⟨.hbm, 90, rfl⟩
abbrev main_while0b_v54 : Ref sig .tc := ⟨.hbm, 91, rfl⟩
abbrev main_while0b_v55 : Ref sig .tc := ⟨.hbm, 92, rfl⟩
abbrev main_while0b_v56 : Ref sig .tc := ⟨.hbm, 93, rfl⟩
abbrev main_while0b_v57 : Ref sig .tc := ⟨.hbm, 94, rfl⟩
abbrev main_while0b_v58 : Ref sig .tc := ⟨.hbm, 95, rfl⟩
abbrev main_while0b_v59 : Ref sig .tc := ⟨.hbm, 96, rfl⟩
abbrev main_while0b_v60 : Ref sig .tc := ⟨.hbm, 97, rfl⟩
abbrev main_while0b_call6_v0 : Ref sig .tc := ⟨.hbm, 98, rfl⟩
abbrev main_while0b_call6_c : Ref sig .tc := ⟨.hbm, 99, rfl⟩
abbrev main_while0b_call6_c_0 : Ref sig .tc := ⟨.hbm, 100, rfl⟩
abbrev main_while0b_v61 : Ref sig .tc := ⟨.hbm, 101, rfl⟩
abbrev main_while0b_c_21 : Ref sig .tc := ⟨.hbm, 102, rfl⟩
abbrev main_while0b_v62 : Ref sig .tc := ⟨.hbm, 103, rfl⟩
abbrev main_v28 : Ref sig .tc := ⟨.hbm, 104, rfl⟩
abbrev main_v29 : Ref sig .tc := ⟨.hbm, 105, rfl⟩
abbrev main_c_8 : Ref sig .tc := ⟨.hbm, 106, rfl⟩
abbrev main_v30 : Ref sig .tc := ⟨.hbm, 107, rfl⟩
abbrev main_c_9 : Ref sig .tc := ⟨.hbm, 108, rfl⟩
abbrev main_v31 : Ref sig .tc := ⟨.hbm, 109, rfl⟩
abbrev main_v32 : Ref sig .tc := ⟨.hbm, 110, rfl⟩
abbrev main_c_10 : Ref sig .tc := ⟨.hbm, 111, rfl⟩
abbrev main_v33 : Ref sig .tc := ⟨.hbm, 112, rfl⟩
abbrev main_v34 : Ref sig .tc := ⟨.hbm, 113, rfl⟩
abbrev main_c_11 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev main_v38 : Ref sig .tc := ⟨.hbm, 118, rfl⟩
abbrev main_c_12 : Ref sig .tc := ⟨.hbm, 119, rfl⟩
abbrev main_c_13 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_c_14 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_cst_15 : Ref sig .tc := ⟨.hbm, 131, rfl⟩
abbrev main_v48 : Ref sig .tc := ⟨.hbm, 132, rfl⟩
abbrev main_v49 : Ref sig .tc := ⟨.hbm, 133, rfl⟩

abbrev nD : Nat := 1
abbrev τ : Topo := Topo.v7x

variable {F : FTy → Type} [FloatOps F]

abbrev main_while0_count : Scf.Loop 32 := ⟨0#32, 2048#32, 1#32⟩
-- ==== Proof.Ema.lean ====
/-
  The arithmetic both programs share, away from any array.

  `clip p` is the probability after the clamp; it is always a real number strictly between 0 and 1, whatever `p` is.
  `ema h q x` is the recursion `h ↦ (1 - q t) * h + q t * x t`. `ema_chunk` says that the closed form the kernel
  evaluates (a lower triangular matrix times the inputs, plus a decay times the carried value) is that recursion, and
  `div_mul_dt` that the reference's scaling of its inputs by `dt` and back leaves them alone. Inputs are extended reals
  throughout: only the coefficients need to be finite.
-/
module

public import Idealize.ShloMosaic.PureOps.Ideal
public import Idealize.ShloMosaic.PureOps.Ideal.Laws
public import Idealize.ShloMosaic.Lib.IdealHost

@[expose] public section

noncomputable section

namespace Cert.Ema

open Idealize.ShloMosaic

/-- The lower clamp, the binary32 number next to `1e-4`. -/
def lo : EReal := Ideal.ofBits .f32 0x38D1B717#32

/-- The upper clamp, the binary32 number next to `1 - 1e-4`. -/
def hi : EReal := Ideal.ofBits .f32 0x3F7FF972#32

/-- A probability clamped to `[lo, hi]`. -/
def clip (p : EReal) : EReal := min hi (max lo p)

/-- The lower clamp is a positive real. -/
theorem lo_eq : ∃ r : ℝ, lo = (r : EReal) ∧ 0 < r ∧ r < 1 / 2 := by
  refine ⟨13743895 * (2 : ℝ) ^ (-37 : ℤ), ?_, by positivity, by norm_num⟩
  simp [lo, Ideal.ofBits, Ideal.ieee, -EReal.coe_mul]

/-- The upper clamp is a real below one. -/
theorem hi_eq : ∃ r : ℝ, hi = (r : EReal) ∧ 1 / 2 < r ∧ r < 1 := by
  refine ⟨16775538 * (2 : ℝ) ^ (-24 : ℤ), ?_, by norm_num, by norm_num⟩
  simp [hi, Ideal.ofBits, Ideal.ieee, -EReal.coe_mul]

/-- A clamped probability is a real number strictly between 0 and 1. -/
theorem clip_real (p : EReal) : ∃ q : ℝ, clip p = (q : EReal) ∧ 0 < q ∧ q < 1 := by
  obtain ⟨l, hl, hl0, hl1⟩ := lo_eq
  obtain ⟨u, hu, hu0, hu1⟩ := hi_eq
  have h1 : clip p ≤ (u : EReal) := by rw [clip, hu]; exact min_le_left _ _
  have h0 : (l : EReal) ≤ clip p := by
    rw [clip, hu, hl]
    exact le_min (EReal.coe_le_coe_iff.2 (by linarith)) (le_max_left _ _)
  generalize clip p = c at h1 h0
  induction c using EReal.rec with
  | bot => simp at h0
  | top => simp at h1
  | coe q =>
    have h1 := EReal.coe_le_coe_iff.1 h1
    have h0 := EReal.coe_le_coe_iff.1 h0
    exact ⟨q, rfl, by linarith, by linarith⟩

/-- Clamping twice is clamping once. -/
theorem clip_clip (p : EReal) : clip (clip p) = clip p := by
  obtain ⟨l, hl, hl0, hl1⟩ := lo_eq
  obtain ⟨u, hu, hu0, hu1⟩ := hi_eq
  have h : lo ≤ hi := by rw [hl, hu]; exact EReal.coe_le_coe_iff.2 (by linarith)
  unfold clip
  rw [max_eq_right (le_min h (le_max_left _ _)), ← min_assoc, min_self]

/-! ## Exponential and logarithm at reals -/

/-- The exponential of a real. -/
theorem exp_coe (r : ℝ) : Ideal.exp (r : EReal) = (Real.exp r : EReal) := rfl

/-- The logarithm of a positive real. -/
theorem log_coe {r : ℝ} (h : 0 < r) : Ideal.log (r : EReal) = (Real.log r : EReal) := by
  show (if r ≤ 0 then (⊥ : EReal) else _) = _
  rw [if_neg (not_le.2 h)]

/-- `log1p (0 - q)` of a real below one. -/
theorem log1p_neg_coe {q : ℝ} (h : q < 1) :
    Ideal.log1p (0 - (q : EReal)) = (Real.log (1 - q) : EReal) := by
  have e : (1 : EReal) + (0 - (q : EReal)) = ((1 - q : ℝ) : EReal) := by
    rw [zero_sub, ← EReal.coe_neg, ← EReal.coe_one, ← EReal.coe_add, sub_eq_add_neg]
  rw [Ideal.log1p, e, log_coe (by linarith)]

/-- Dividing by the step `dt = log (1 / (1 - q))` and multiplying by it again changes no value, infinite or not: the
    step is a positive real. -/
theorem div_mul_dt {q : ℝ} (h0 : 0 < q) (h1 : q < 1) (x : EReal) :
    Ideal.div x (Ideal.log (Ideal.div 1 (1 - (q : EReal)))) * Ideal.log (Ideal.div 1 (1 - (q : EReal))) = x := by
  have hp : 0 < 1 - q := by linarith
  have e : (1 : EReal) - (q : EReal) = ((1 - q : ℝ) : EReal) := by
    rw [EReal.coe_sub, EReal.coe_one]
  have hne : ((1 - q : ℝ) : EReal) ≠ 0 := by
    rw [Ne, EReal.coe_eq_zero]; exact hp.ne'
  have d : Ideal.div 1 (1 - (q : EReal)) = (((1 - q)⁻¹ : ℝ) : EReal) := by
    rw [e, Ideal.div, if_neg hne, one_mul, EReal.coe_inv]
  have hlog : 0 < Real.log ((1 - q)⁻¹) := Real.log_pos ((one_lt_inv₀ hp).2 (by linarith))
  rw [d, log_coe (inv_pos.2 hp)]
  generalize Real.log ((1 - q)⁻¹) = r at hlog
  have hr : (r : EReal) ≠ 0 := by simpa using hlog.ne'
  rw [Ideal.div, if_neg hr, ← EReal.coe_inv, mul_assoc, ← EReal.coe_mul, inv_mul_cancel₀ hlog.ne', EReal.coe_one, mul_one]

/-! ## The recursion -/

/-- The exponential moving average after `t` steps, from `h`, with probabilities `q` and inputs `x`. -/
def ema (h : EReal) (q x : ℕ → EReal) : ℕ → EReal
  | 0 => h
  | t + 1 => (1 - q t) * ema h q x t + q t * x t

/-- The average reads only the steps before `t`. -/
theorem ema_congr {h : EReal} {q q' x x' : ℕ → EReal} (t : ℕ) (hq : ∀ s < t, q s = q' s) (hx : ∀ s < t, x s = x' s) :
    ema h q x t = ema h q' x' t := by
  induction t with
  | zero => rfl
  | succ t ih =>
    rw [ema, ema, hq t (Nat.lt_succ_self t), hx t (Nat.lt_succ_self t),
      ih (fun s hs => hq s (Nat.lt_succ_of_lt hs)) (fun s hs => hx s (Nat.lt_succ_of_lt hs))]

/-- Running `a` steps and then `b` more is running `a + b` steps. -/
theorem ema_add (h : EReal) (q x : ℕ → EReal) (a b : ℕ) :
    ema (ema h q x a) (fun s => q (a + s)) (fun s => x (a + s)) b = ema h q x (a + b) := by
  induction b with
  | zero => rfl
  | succ b ih => rw [ema, ih]; rfl

/-- A nonnegative real coefficient distributes over a finite sum of extended reals. -/
theorem coe_mul_sum {c : ℝ} (hc : 0 ≤ c) (f : ℕ → EReal) (n : ℕ) :
    (c : EReal) * ∑ s ∈ Finset.range n, f s = ∑ s ∈ Finset.range n, (c : EReal) * f s := by
  induction n with
  | zero => simp
  | succ n ih =>
    rw [Finset.sum_range_succ, Finset.sum_range_succ,
      EReal.left_distrib_of_nonneg_of_ne_top (EReal.coe_nonneg.2 hc) (EReal.coe_ne_top _), ih]

/-- The running sum of the log decays, up to and including step `t`. -/
def logs (q : ℕ → ℝ) (t : ℕ) : ℝ := ∑ s ∈ Finset.range (t + 1), Real.log (1 - q s)

/-- The closed form of the average: every input weighted by the decay from its step to `t`, plus the decayed start. -/
theorem closed_form (q : ℕ → ℝ) (h1 : ∀ s, q s < 1) (h : EReal) (x : ℕ → EReal) (t : ℕ) :
    ∑ s ∈ Finset.range (t + 1), ((Real.exp (logs q t - logs q s) * q s : ℝ) : EReal) * x s
      + (Real.exp (logs q t) : EReal) * h = ema h (fun s => (q s : EReal)) x (t + 1) := by
  have one_sub (s : ℕ) : (1 : EReal) - (q s : EReal) = ((1 - q s : ℝ) : EReal) := by
    rw [EReal.coe_sub, EReal.coe_one]
  have hp (s : ℕ) : 0 < 1 - q s := by linarith [h1 s]
  induction t with
  | zero =>
    rw [ema, ema, zero_add, Finset.sum_range_one, one_sub, sub_self, Real.exp_zero, one_mul, logs, zero_add,
      Finset.sum_range_one, Real.exp_log (hp 0), add_comm]
  | succ t ih =>
    have hS : logs q (t + 1) = logs q t + Real.log (1 - q (t + 1)) := Finset.sum_range_succ _ _
    have hE (u : ℝ) : Real.exp (logs q (t + 1) - u) = (1 - q (t + 1)) * Real.exp (logs q t - u) := by
      rw [hS, show logs q t + Real.log (1 - q (t + 1)) - u = Real.log (1 - q (t + 1)) + (logs q t - u) by ring,
        Real.exp_add, Real.exp_log (hp _)]
    have hE0 : Real.exp (logs q (t + 1)) = (1 - q (t + 1)) * Real.exp (logs q t) := by
      simpa using hE 0
    rw [ema, ← ih, Finset.sum_range_succ, sub_self, Real.exp_zero, one_mul, one_sub,
      EReal.left_distrib_of_nonneg_of_ne_top (EReal.coe_nonneg.2 (hp _).le) (EReal.coe_ne_top _),
      coe_mul_sum (hp _).le, hE0, EReal.coe_mul, mul_assoc, add_right_comm]
    congr 2
    refine Finset.sum_congr rfl fun s _ => ?_
    rw [hE, mul_assoc, EReal.coe_mul, mul_assoc]

/-- A finite sum of reals, read in the extended reals. -/
theorem coe_sum (f : ℕ → ℝ) (n : ℕ) :
    ∑ s ∈ Finset.range n, (f s : EReal) = ((∑ s ∈ Finset.range n, f s : ℝ) : EReal) := by
  induction n with
  | zero => simp
  | succ n ih => rw [Finset.sum_range_succ, Finset.sum_range_succ, ih, EReal.coe_add]

/-- A sum over `n` positions of the terms at or before `t` is the sum of the first `t + 1` terms. -/
theorem sum_le {n : ℕ} (f : ℕ → EReal) (t : Fin n) :
    ∑ s : Fin n, (if s.val ≤ t.val then f s.val else 0) = ∑ s ∈ Finset.range (t.val + 1), f s := by
  rw [Fin.sum_univ_eq_sum_range (fun s => if s ≤ t.val then f s else 0) n, ← Finset.sum_filter]
  refine Finset.sum_congr ?_ fun _ _ => rfl
  ext s
  simp only [Finset.mem_filter, Finset.mem_range]
  have := t.isLt
  omega

/-- The kernel's closed form over one block of `n` steps, with its running sums of log decays taken by masked sums, is
    the average after the block's first `t + 1` steps. -/
theorem ema_chunk {n : ℕ} (h : EReal) (p x : ℕ → EReal) (t : Fin n) :
    ∑ s : Fin n, (if s.val ≤ t.val then
        Ideal.exp ((∑ k : Fin n, if k.val ≤ t.val then Ideal.log1p (0 - clip (p k.val)) else 0)
          - (∑ k : Fin n, if k.val ≤ s.val then Ideal.log1p (0 - clip (p k.val)) else 0)) * clip (p s.val) * x s.val
        else 0)
      + Ideal.exp (∑ k : Fin n, if k.val ≤ t.val then Ideal.log1p (0 - clip (p k.val)) else 0) * h
      = ema h (fun s => clip (p s)) x (t.val + 1) := by
  choose q hq h0 h1 using fun s => clip_real (p s)
  have hL (t : Fin n) : (∑ k : Fin n, if k.val ≤ t.val then Ideal.log1p (0 - clip (p k.val)) else 0)
      = (logs q t.val : EReal) := by
    rw [sum_le (fun k => Ideal.log1p (0 - clip (p k))), logs, ← coe_sum]
    exact Finset.sum_congr rfl fun s _ => by rw [hq, log1p_neg_coe (h1 s)]
  simp only [hL]
  simp only [hq]
  rw [← closed_form q h1, exp_coe]
  congr 1
  rw [← sum_le (fun s => ((Real.exp (logs q t.val - logs q s) * q s : ℝ) : EReal) * x s) t]
  refine Finset.sum_congr rfl fun s _ => ?_
  rw [← EReal.coe_sub, exp_coe, EReal.coe_mul]

end Cert.Ema
-- ==== Proof.Block.lean ====
/-
  What the kernel computes on one block of 256 steps, and on the four such blocks of a chunk of 1024.

  The body repeats one computation four times, each time over the next 256 probabilities and inputs and over the last
  row of the block before. `blk` is that computation; `blk_ema` says that its row `t` is the average after `t + 1` steps.
  `y0` … `y3` are the four blocks of a chunk, each started from the last row of the one before.
-/
module

public import proofs.«01_k».proof.Proof.Gen.KernelIdeal.Skeleton
public import proofs.«01_k».proof.Proof.Ema
public import Idealize.ShloMosaic.Lib.Pointwise
public import Idealize.ShloMosaic.Lib.Pipeline.ValueKit

@[expose] public section

set_option maxRecDepth 16384

noncomputable section

namespace Cert.Block

open Idealize.ShloMosaic Idealize.ShloMosaic.Pointwise Idealize.SL.Sem
open Cert.KernelIdeal Cert.KernelIdeal.Gen
open Cert.Ema (clip ema)

/-- A counter below 2048, as a signed 32-bit word, is itself. -/
theorem toInt_small (n : ℕ) (h : n < 2048) : (BitVec.ofNat 32 n).toInt = n := by
  have e : (BitVec.ofNat 32 n).toNat = n := by rw [BitVec.toNat_ofNat]; omega
  rw [BitVec.toInt_eq_toNat_of_lt (by rw [e]; omega), e]

/-- The comparison of two small counters as 32-bit words is the comparison of the counters. -/
theorem sge_iff (a b : Fin 256) :
    IntOp.cmpi .sge (BitVec.ofNat 32 a.val) (BitVec.ofNat 32 b.val) = if b.val ≤ a.val then 1#1 else 0#1 := by
  have ha := a.isLt
  have hb := b.isLt
  have ea := toInt_small a.val (by omega)
  have eb := toInt_small b.val (by omega)
  by_cases h : b.val ≤ a.val
  · rw [if_pos h]; simp [IntOp.cmpi, BitVec.sle, ea, eb, h]
  · rw [if_neg h]; simp [IntOp.cmpi, BitVec.sle, ea, eb, h]

/-- `a ≤ b` and `b ≥ a` are the same comparison. -/
theorem sle_iff (a b : Fin 256) :
    IntOp.cmpi .sle (BitVec.ofNat 32 a.val) (BitVec.ofNat 32 b.val) = if a.val ≤ b.val then 1#1 else 0#1 := by
  rw [← sge_iff b a]; rfl

/-- A bit widened to a word and converted to a float is the number one or zero. -/
theorem sitofp_bit (c : Prop) [Decidable c] :
    (FloatOps.sitofp (F := Ideal) FTy.f32 (BitVec.setWidth 32 (if c then 1#1 else 0#1)) : EReal) = if c then 1 else 0 := by
  split
  · show (((BitVec.setWidth 32 1#1).toInt : ℝ) : EReal) = 1
    simp
  · show (((BitVec.setWidth 32 0#1).toInt : ℝ) : EReal) = 0
    simp

/-- The computation the body repeats: 256 probabilities, 256 rows of inputs and one carried row give 256 rows. -/
def blk (p : Vec Ideal S1x1x1x256 .f32) (x : Vec Ideal S1x256x2048 .f32) (h : FVec Ideal S1x2048 .f32) :
    FVec Ideal S256x2048 .f32 :=
  k0_pay12 (k0_pay10 p x) (k0_pay11 h p)

/-- Row `t` of the block is the average after `t + 1` steps from the carried row. -/
theorem blk_ema (v : Vec Ideal S1x1x1x256 .f32) (w : Vec Ideal S1x256x2048 .f32) (c : FVec Ideal S1x2048 .f32)
    (p x : ℕ → EReal) (h : EReal) (t : Fin 256) (d : Fin 2048)
    (hp : ∀ k : Fin 256, v (ix4 0 0 0 k) = p k.val) (hx : ∀ k : Fin 256, w (ix3 0 k d) = x k.val)
    (hc : c (ix2 0 d) = h) :
    blk v w c (ix2 t d) = ema h (fun s => clip (p s)) x (t.val + 1) := by
  rw [← Ema.ema_chunk h p x t]
  pointwise [blk, k0_pay12, k0_pay10, k0_pay11, k0_pay9, k0_pay8, k0_pay7, k0_pay5, k0_pay6]
  simp only [hp, hx, hc, sge_iff, sle_iff, sitofp_bit, ite_mul, mul_ite, one_mul, mul_one, zero_mul, mul_zero]
  congr 1
  refine Finset.sum_congr rfl fun s _ => ?_
  by_cases hs : s.val ≤ t.val
  · simp only [if_pos hs]; rfl
  · simp only [if_neg hs]; rfl

/-- The last row of a block. -/
def last (y : FVec Ideal S256x2048 .f32) : FVec Ideal S1x2048 .f32 :=
  extractStridedSlice S1x2048 ![255, 0] y slices_S256x2048_o255_0_S1x2048

theorem last_apply (y : FVec Ideal S256x2048 .f32) (d : Fin 2048) : last y (ix2 0 d) = y (ix2 255 d) := by
  pointwise [last]

variable (P : Vec Ideal S1x1x1x1024 .f32) (X : Vec Ideal S1x1024x2048 .f32) (c : FVec Ideal S1x2048 .f32)

/-- The first block of a chunk, from the carried row. -/
def y0 : FVec Ideal S256x2048 .f32 :=
  blk (View.ld P (Rect.unit ![0, 0, 0, 0] ![1, 1, 1, 256] inb_S1x1x1x1024_S1x1x1x256_0_0_0_0))
    (View.ld X (Rect.unit ![0, 0, 0] ![1, 256, 2048] inb_S1x1024x2048_S1x256x2048_0_0_0)) c

/-- The second block of a chunk. -/
def y1 : FVec Ideal S256x2048 .f32 :=
  blk (View.ld P (Rect.unit ![0, 0, 0, 256] ![1, 1, 1, 256] inb_S1x1x1x1024_S1x1x1x256_0_0_0_256))
    (View.ld X (Rect.unit ![0, 256, 0] ![1, 256, 2048] inb_S1x1024x2048_S1x256x2048_0_256_0)) (last (y0 P X c))

/-- The third block of a chunk. -/
def y2 : FVec Ideal S256x2048 .f32 :=
  blk (View.ld P (Rect.unit ![0, 0, 0, 512] ![1, 1, 1, 256] inb_S1x1x1x1024_S1x1x1x256_0_0_0_512))
    (View.ld X (Rect.unit ![0, 512, 0] ![1, 256, 2048] inb_S1x1024x2048_S1x256x2048_0_512_0)) (last (y1 P X c))

/-- The fourth block of a chunk. -/
def y3 : FVec Ideal S256x2048 .f32 :=
  blk (View.ld P (Rect.unit ![0, 0, 0, 768] ![1, 1, 1, 256] inb_S1x1x1x1024_S1x1x1x256_0_0_0_768))
    (View.ld X (Rect.unit ![0, 768, 0] ![1, 256, 2048] inb_S1x1024x2048_S1x256x2048_0_768_0)) (last (y2 P X c))

variable (p x : ℕ → EReal) (h : EReal) (d : Fin 2048)
  (hp : ∀ k : Fin 1024, P (ix4 0 0 0 k) = p k.val) (hx : ∀ k : Fin 1024, X (ix3 0 k d) = x k.val) (hc : c (ix2 0 d) = h)

include hp hx hc

theorem y0_ema (t : Fin 256) : y0 P X c (ix2 t d) = ema h (fun s => clip (p s)) x (0 + (t.val + 1)) := by
  rw [zero_add]
  refine blk_ema _ _ _ p x h t d (fun k => ?_) (fun k => ?_) hc
  · pointwise; rw [hp]
  · pointwise; rw [hx]

theorem y1_ema (t : Fin 256) : y1 P X c (ix2 t d) = ema h (fun s => clip (p s)) x (256 + (t.val + 1)) := by
  rw [← Ema.ema_add]
  refine blk_ema _ _ _ (fun s => p (256 + s)) (fun s => x (256 + s)) _ t d (fun k => ?_) (fun k => ?_) ?_
  · pointwise; rw [hp]
  · pointwise; rw [hx]
  · rw [last_apply, y0_ema P X c p x h d hp hx hc]; rfl

theorem y2_ema (t : Fin 256) : y2 P X c (ix2 t d) = ema h (fun s => clip (p s)) x (512 + (t.val + 1)) := by
  rw [← Ema.ema_add]
  refine blk_ema _ _ _ (fun s => p (512 + s)) (fun s => x (512 + s)) _ t d (fun k => ?_) (fun k => ?_) ?_
  · pointwise; rw [hp]
  · pointwise; rw [hx]
  · rw [last_apply, y1_ema P X c p x h d hp hx hc]; rfl

theorem y3_ema (t : Fin 256) : y3 P X c (ix2 t d) = ema h (fun s => clip (p s)) x (768 + (t.val + 1)) := by
  rw [← Ema.ema_add]
  refine blk_ema _ _ _ (fun s => p (768 + s)) (fun s => x (768 + s)) _ t d (fun k => ?_) (fun k => ?_) ?_
  · pointwise; rw [hp]
  · pointwise; rw [hx]
  · rw [last_apply, y2_ema P X c p x h d hp hx hc]; rfl

end Cert.Block
-- ==== Proof.Chunk.lean ====
/-
  What a grid point leaves: the four blocks of its chunk in the output window, and in row 0 of the scratch the last row
  of the fourth. The two cases are the two halves of a sequence: the first point of a batch element clears the scratch,
  the second reads the row that the first left.
-/
module

public import proofs.«01_k».proof.Proof.Gen.KernelIdeal.Value
public import proofs.«01_k».proof.Proof.Block
public import Idealize.ShloMosaic.Lib.Pipeline.ReadBack

@[expose] public section

set_option maxRecDepth 16384

noncomputable section

namespace Cert.Chunk

open Idealize.ShloMosaic Idealize.ShloMosaic.Pointwise Idealize.SL.Sem
open Cert.KernelIdeal Cert.KernelIdeal.Gen Cert.KernelIdeal.Value
open Cert.Ema (clip ema)
open Cert.Block

/-- A block of 256 rows under the leading unit axis of the output window. -/
def lift (y : FVec Ideal S256x2048 .f32) : FVec Ideal S1x256x2048 .f32 :=
  shapeCast S1x256x2048 y shapeCasts_S256x2048_S1x256x2048

theorem lift_apply (y : FVec Ideal S256x2048 .f32) (k : Fin 256) (d : Fin 2048) : lift y (ix3 0 k d) = y (ix2 k d) := by
  pointwise [lift]

/-! ## The body's payloads are the block computation

The generated names split the body at its four stores; each value stored or carried is `blk` of its block's loads. -/

section
variable (i j : IVec S256x256 32) (v : Vec Ideal S1x1x1x256 .f32) (w : Vec Ideal S1x256x2048 .f32) (c : FVec Ideal S1x2048 .f32)
  (a b : FVec Ideal S256x2048 .f32)

theorem pay12_eq : k0_pay12 (k0_pay10 v w) (k0_pay11 c v) = blk v w c := rfl

theorem pay13_eq : k0_pay13 a b = lift (k0_pay12 a b) := rfl

theorem pay14_eq :
    k0_pay14 (iota .tc S256x256 32 [0] iota_S256x256_d0_w32) (iota .tc S256x256 32 [1] iota_S256x256_d1_w32)
      (k0_pay5 (F := Ideal)) k0_pay6 a b v w = blk v w (last (k0_pay12 a b)) := rfl

theorem pay15_eq (f g : FVec Ideal S256x256 .f32) : k0_pay15 i j f g a b v w = lift (k0_pay14 i j f g a b v w) := rfl

theorem pay16_eq (f g : FVec Ideal S256x256 .f32) : k0_pay16 i j f g a b v w = last (k0_pay14 i j f g a b v w) := rfl

theorem pay17_eq :
    k0_pay17 (iota .tc S256x256 32 [0] iota_S256x256_d0_w32) (iota .tc S256x256 32 [1] iota_S256x256_d1_w32)
      (k0_pay5 (F := Ideal)) k0_pay6 c v w = blk v w c := rfl

theorem pay18_eq (f g : FVec Ideal S256x256 .f32) : k0_pay18 i j f g c v w = lift (k0_pay17 i j f g c v w) := rfl

theorem pay19_eq (f g : FVec Ideal S256x256 .f32) : k0_pay19 i j f g c v w = last (k0_pay17 i j f g c v w) := rfl

theorem pay1_eq :
    k0_pay1 (iota .tc S256x256 32 [0] iota_S256x256_d0_w32) (iota .tc S256x256 32 [1] iota_S256x256_d1_w32)
      (k0_pay5 (F := Ideal)) k0_pay6 c (k0_pay20 v) k0_pay21 w = blk v w c := rfl

theorem pay2_eq (f g : FVec Ideal S256x256 .f32) (q r : FVec Ideal S1x256 .f32) :
    k0_pay2 i j f g c q r w = lift (k0_pay1 i j f g c q r w) := rfl

theorem pay3_eq (f g : FVec Ideal S256x256 .f32) (q r : FVec Ideal S1x256 .f32) :
    k0_pay3 i j f g c q r w = shapeCast S1x2048 (last (k0_pay1 i j f g c q r w)) shapeCasts_S1x2048_S1x2048 := rfl

end

/-- The stores of a grid point into its output window, last first. -/
def stores (P : Vec Ideal S1x1x1x1024 .f32) (X : Vec Ideal S1x1024x2048 .f32) (c : FVec Ideal S1x2048 .f32) :
    List (View.Piece (Elt Ideal) S1x1024x2048 .f32) :=
  [⟨Rect.unit ![0, 768, 0] ![1, 256, 2048] inb_S1x1024x2048_S1x256x2048_0_768_0, lift (y3 P X c)⟩,
   ⟨Rect.unit ![0, 512, 0] ![1, 256, 2048] inb_S1x1024x2048_S1x256x2048_0_512_0, lift (y2 P X c)⟩,
   ⟨Rect.unit ![0, 256, 0] ![1, 256, 2048] inb_S1x1024x2048_S1x256x2048_0_256_0, lift (y1 P X c)⟩,
   ⟨Rect.unit ![0, 0, 0] ![1, 256, 2048] inb_S1x1024x2048_S1x256x2048_0_0_0, lift (y0 P X c)⟩]

section
variable (P : Vec Ideal S1x1x1x1024 .f32) (X : Vec Ideal S1x1024x2048 .f32) (c : FVec Ideal S1x2048 .f32)
  (p x : ℕ → EReal) (h : EReal) (d : Fin 2048)
  (hp : ∀ k : Fin 1024, P (ix4 0 0 0 k) = p k.val) (hx : ∀ k : Fin 1024, X (ix3 0 k d) = x k.val) (hc : c (ix2 0 d) = h)

include hp hx hc

/-- Read back, the stores hold the average at every row of the chunk. -/
theorem canon_stores (r : Fin 1024) :
    View.canon (stores P X c) (ix3 0 r d) = ema h (fun s => clip (p s)) x (r.val + 1) := by
  unfold stores
  canon_tiles y e
  all_goals
    obtain ⟨a, k, b, rfl⟩ : ∃ (a : Fin 1) (k : Fin 256) (b : Fin 2048), y = ix3 a k b := ⟨y 0, y 1, y 2, eq_ix3 y⟩
    obtain rfl : a = 0 := Subsingleton.elim _ _
    have e1 : r.val = _ := e1
    obtain rfl : d = b := Fin.ext e2
    rw [lift_apply]
  · rw [y3_ema P X c p x h d hp hx hc, e1]; rfl
  · rw [y2_ema P X c p x h d hp hx hc, e1]; rfl
  · rw [y1_ema P X c p x h d hp hx hc, e1]; rfl
  · rw [y0_ema P X c p x h d hp hx hc, e1, zero_add]; rfl

end

variable (m : (ℓ : Loc nD τ sig) → Buf (Elt Ideal) ℓ) (c : Dev nD) (t : Fin cfg0.N)
  (p x : ℕ → EReal) (d : Fin 2048)
  (hp : ∀ k : Fin 1024, (iblk m c 0 t : Vec Ideal S1x1x1x1024 .f32) (ix4 0 0 0 k) = p k.val)
  (hx : ∀ k : Fin 1024, (iblk m c 1 t : Vec Ideal S1x1024x2048 .f32) (ix3 0 k d) = x k.val)

/-- Row 0 of a scratch. -/
def row0 (s : Vec Ideal S8x2048 .f32) : FVec Ideal S1x2048 .f32 :=
  View.ld s (Rect.unit ![0, 0] ![1, 2048] inb_S8x2048_S1x2048_0_0)

theorem row0_apply (s : Vec Ideal S8x2048 .f32) (d : Fin 2048) : row0 s (ix2 0 d) = s (ix2 0 d) := by
  unfold row0
  pointwise

/-- The cleared scratch is zero. -/
theorem cleared (d : Fin 2048) : row0 (k0_pay4 (F := Ideal)) (ix2 0 d) = 0 := by
  rw [row0_apply]
  pointwise [k0_pay4]

include hp hx

/-- At the first point of a batch element the output window holds the average from zero. -/
theorem out_first (h : t.val % 2 = 0) (r : Fin 1024) :
    ((outsAt0 m c t.val t.isLt).1 : Vec Ideal S1x1024x2048 .f32) (ix3 0 r d) = ema 0 (fun s => clip (p s)) x (r.val + 1) := by
  rw [outsAt0_A m c t h]
  frame_out
  simp (disch := decide) only [View.readCov_fill, pay18_eq, pay19_eq, pay17_eq, pay15_eq, pay16_eq, pay14_eq, pay13_eq, pay12_eq, pay2_eq, pay3_eq, pay1_eq]
  exact canon_stores _ _ (row0 (k0_pay4 (F := Ideal))) p x 0 d hp hx (cleared d) r

/-- After the first point of a batch element row 0 of the scratch holds the average of its whole chunk. -/
theorem scratch_first (h : t.val % 2 = 0) :
    ((outsAt0 m c t.val t.isLt).2 : Vec Ideal S8x2048 .f32) (ix2 0 d) = ema 0 (fun s => clip (p s)) x 1024 := by
  rw [outsAt0_A m c t h]
  frame_out
  simp (disch := decide) only [View.readCov_fill, pay18_eq, pay19_eq, pay17_eq, pay15_eq, pay16_eq, pay14_eq, pay13_eq, pay12_eq, pay2_eq, pay3_eq, pay1_eq]
  have hl : last (y3 (iblk m c 0 t) (iblk m c 1 t) (row0 (k0_pay4 (F := Ideal)))) (ix2 0 d) = ema 0 (fun s => clip (p s)) x 1024 := by
    rw [last_apply, y3_ema _ _ _ p x 0 d hp hx (cleared d)]; rfl
  rw [← hl]
  have e : (ix2 0 d : S8x2048.Idx) = (Rect.unit ![0, 0] ![1, 2048] inb_S8x2048_S1x2048_0_0).emb (ix2 0 d) := by
    funext q
    apply Fin.ext
    change _ = ((Rect.unit ![0, 0] ![1, 2048] inb_S8x2048_S1x2048_0_0).idx (ix2 0 d) q : ℕ)
    rw [Rect.idx_unit_val]
    fin_cases q
    · rfl
    · exact (Nat.zero_add _).symm
  rw [e, View.canon_cons_emb]
  pointwise
  rw [pay1_eq, pay17_eq, pay14_eq, pay12_eq]
  rfl

/-- At the second point of a batch element the output window holds the average from the carried row. -/
theorem out_second (h : ¬ t.val % 2 = 0) (h0 : EReal)
    (hc : ((outsAt0 m c (t.val - 1) (Nat.lt_of_le_of_lt (Nat.sub_le _ _) t.isLt)).2 : Vec Ideal S8x2048 .f32) (ix2 0 d) = h0) (r : Fin 1024) :
    ((outsAt0 m c t.val t.isLt).1 : Vec Ideal S1x1024x2048 .f32) (ix3 0 r d) = ema h0 (fun s => clip (p s)) x (r.val + 1) := by
  rw [outsAt0_B m c t h]
  frame_out
  simp only [read_unread_whole, pay18_eq, pay19_eq, pay17_eq, pay15_eq, pay16_eq, pay14_eq, pay13_eq, pay12_eq, pay2_eq, pay3_eq, pay1_eq]
  exact canon_stores _ _ (row0 (outsAt0 m c (t.val - 1) _).2) p x h0 d hp hx ((row0_apply _ d).trans hc) r

end Cert.Chunk
-- ==== Proof.Result.lean ====
/-
  The value both programs end with: at batch element `b`, step `t` and channel `d`, the exponential moving average of
  the inputs of that batch element and channel over steps `0 … t`, from zero, with the clamped probabilities.
-/
module

public import proofs.«01_k».proof.Proof.Ema
public import Idealize.ShloMosaic.Lib.Pointwise

@[expose] public section

noncomputable section

namespace Cert.Result

open Idealize.ShloMosaic Idealize.ShloMosaic.Pointwise
open Cert.Ema (clip ema)

/-- The probabilities of batch element `b`, step by step. -/
def probs (P : (⟨2, ![8, 2048]⟩ : Shape).Idx → EReal) (b : Fin 8) (s : ℕ) : EReal :=
  if h : s < 2048 then P (ix2 b ⟨s, h⟩) else 0

/-- The inputs of batch element `b` and channel `d`, step by step. -/
def inputs (X : (⟨3, ![8, 2048, 2048]⟩ : Shape).Idx → EReal) (b : Fin 8) (d : Fin 2048) (s : ℕ) : EReal :=
  if h : s < 2048 then X (ix3 b ⟨s, h⟩ d) else 0

/-- The average of batch element `b` and channel `d` after `t` steps. -/
def average (X : (⟨3, ![8, 2048, 2048]⟩ : Shape).Idx → EReal) (P : (⟨2, ![8, 2048]⟩ : Shape).Idx → EReal)
    (b : Fin 8) (d : Fin 2048) (t : ℕ) : EReal :=
  ema 0 (fun s => clip (probs P b s)) (inputs X b d) t

/-- The result: the average after each step. -/
def result (X : (⟨3, ![8, 2048, 2048]⟩ : Shape).Idx → EReal) (P : (⟨2, ![8, 2048]⟩ : Shape).Idx → EReal) :
    (⟨3, ![8, 2048, 2048]⟩ : Shape).Idx → EReal :=
  fun i => average X P (i 0) (i 2) ((i 1).val + 1)

end Cert.Result
-- ==== Proof.KernelArray.lean ====
/-
  What the kernel's result array holds: at batch element `b`, step `r` and channel `d` the average of the whole sequence
  up to and including step `r`, from zero. A batch element is two grid points; the second starts from the row the first
  carried over in the scratch.
-/
module

public import proofs.«01_k».proof.Proof.Chunk
public import proofs.«01_k».proof.Proof.Result
public import Idealize.ShloMosaic.Lib.Claim

@[expose] public section

set_option maxRecDepth 16384

noncomputable section

namespace Cert.KernelArray

open Idealize.ShloMosaic Idealize.ShloMosaic.Pointwise Idealize.SL.Sem Idealize.ShloMosaic.TcCoe
open Cert.KernelIdeal Cert.KernelIdeal.Gen Cert.KernelIdeal.Value
open Cert.Ema (clip ema)
open Cert.Result

variable (m : (ℓ : Loc nD τ sig) → Buf (Elt Ideal) ℓ) (c : Dev nD)

/-- Grid point `t` is half `t % 2` of batch element `t / 2`, in each window. -/
theorem idx : ∀ t : Fin cfg0.N, win0_0.index t = ![t.val / 2, t.val % 2, 0, 0] ∧ win0_1.index t = ![t.val / 2, t.val % 2, 0] :=
  (by decide +kernel : ∀ t : Fin grid0.N, win0_0.index t = ![t.val / 2, t.val % 2, 0, 0] ∧ win0_1.index t = ![t.val / 2, t.val % 2, 0])

/-- The probabilities a grid point reads. -/
theorem probs_block (t : Fin cfg0.N) (b : Fin 8) (hb : b.val = t.val / 2) (k : Fin 1024) :
    (iblk m c 0 t : Vec Ideal S1x1x1x1024 .f32) (ix4 0 0 0 k)
      = probs (m ((c : Thread nD τ).loc main_arg2)) b (1024 * (t.val % 2) + k.val) := by
  have hk : 1024 * (t.val % 2) + k.val < 2048 := by omega
  rw [probs, dif_pos hk]
  obtain ⟨e0, e1⟩ := idx t
  blk_simp [iblk, V, e0, e1]
  entry_read
  pointwise
  blk_ext [iblk, V, e0, e1]

/-- The inputs a grid point reads. -/
theorem inputs_block (t : Fin cfg0.N) (b : Fin 8) (hb : b.val = t.val / 2) (k : Fin 1024) (d : Fin 2048) :
    (iblk m c 1 t : Vec Ideal S1x1024x2048 .f32) (ix3 0 k d)
      = inputs (m ((c : Thread nD τ).loc main_arg0)) b d (1024 * (t.val % 2) + k.val) := by
  have hk : 1024 * (t.val % 2) + k.val < 2048 := by omega
  rw [inputs, dif_pos hk]
  obtain ⟨e0, e1⟩ := idx t
  blk_ext [iblk, V, e0, e1]

/-- A grid point's output window holds the average of its batch element's sequence at each of its 1024 steps. -/
theorem out_point (t : Fin cfg0.N) (b : Fin 8) (hb : b.val = t.val / 2) (r : Fin 1024) (d : Fin 2048) :
    ((outsAt0 m c t.val t.isLt).1 : Vec Ideal S1x1024x2048 .f32) (ix3 0 r d)
      = average (m ((c : Thread nD τ).loc main_arg0)) (m ((c : Thread nD τ).loc main_arg2)) b d (1024 * (t.val % 2) + r.val + 1) := by
  by_cases h : t.val % 2 = 0
  · rw [Chunk.out_first m c t (fun s => probs _ b (1024 * (t.val % 2) + s)) (fun s => inputs _ b d (1024 * (t.val % 2) + s)) d (probs_block m c t b hb) (fun k => inputs_block m c t b hb k d) h]
    simp only [h, mul_zero, zero_add]
    rfl
  · have h1 : t.val % 2 = 1 := by omega
    have hlt : t.val - 1 < cfg0.N := Nat.lt_of_le_of_lt (Nat.sub_le _ _) t.isLt
    have hs := Chunk.scratch_first m c ⟨t.val - 1, hlt⟩ (fun s => probs _ b (1024 * ((t.val - 1) % 2) + s)) (fun s => inputs _ b d (1024 * ((t.val - 1) % 2) + s)) d (probs_block m c ⟨t.val - 1, hlt⟩ b (by show _ = (t.val - 1) / 2; omega))
      (fun k => inputs_block m c ⟨t.val - 1, hlt⟩ b (by show _ = (t.val - 1) / 2; omega) k d) (by show (t.val - 1) % 2 = 0; omega)
    rw [Chunk.out_second m c t (fun s => probs _ b (1024 * (t.val % 2) + s)) (fun s => inputs _ b d (1024 * (t.val % 2) + s)) d (probs_block m c t b hb) (fun k => inputs_block m c t b hb k d) h _ hs r]
    have h0 : (t.val - 1) % 2 = 0 := by omega
    simp only [h0, h1, mul_zero, zero_add, mul_one]
    rw [Ema.ema_add (q := fun s => clip (probs _ b s)), average, add_assoc]

/-- The kernel's result array, as a function of its arguments. -/
theorem array_eq : G2 m c = result (m ((c : Thread nD τ).loc main_arg0)) (m ((c : Thread nD τ).loc main_arg2)) := by
  funext i
  have h0 : (i 0).val < 8 := (i 0).isLt
  have h1 : (i 1).val < 2048 := (i 1).isLt
  have h2 : (i 2).val < 2048 := (i 2).isLt
  have hpt : pt2Of i = 2 * ((i 0).val / 1 - 0) + 1 * ((i 1).val / 1024 - 0) + 1 * ((i 2).val / 2048 - 0) := rfl
  have hn : pt2Of i < cfg0.N := by
    show _ < grid0.N
    rw [N_0]
    omega
  rw [G2, dif_pos hn, ← outsAt0_sweep m c (pt2Of i) hn]
  have e : loc2Of i = ix3 0 ⟨(i 1).val % 1024, Nat.mod_lt _ (by decide)⟩ (i 2) := by
    funext a
    match a with
    | ⟨0, _⟩ => exact Fin.ext (Nat.mod_one _)
    | ⟨1, _⟩ => rfl
    | ⟨2, _⟩ => exact Fin.ext (Nat.mod_eq_of_lt h2)
  rw [e]
  refine (out_point m c ⟨pt2Of i, hn⟩ (i 0) ?_ _ _).trans ?_
  · show _ = pt2Of i / 2
    omega
  · show average _ _ (i 0) (i 2) (1024 * (pt2Of i % 2) + (i 1).val % 1024 + 1) = average _ _ (i 0) (i 2) ((i 1).val + 1)
    congr 1
    omega

end Cert.KernelArray
-- ==== Proof.Reads.lean ====
/-
  What the reference's index arithmetic reads when every position starts a chunk: the running count of chunk starts at
  position `t` is `t + 1`, a table of positions passes the range test, and gathering along the identity table changes
  nothing.
-/
module

public import proofs.«01_k».proof.Proof.Gen.ReferenceIdeal
public import proofs.«01_k».proof.Proof.Block
public import Idealize.ShloMosaic.Lib.Routing.Ops
public import Idealize.ShloMosaic.Lib.ReduceAll
public import Idealize.ShloMosaic.Lib.Routing.SortLink

@[expose] public section

set_option maxRecDepth 16384

noncomputable section

namespace Cert.Reads

open Idealize.ShloMosaic
open Cert.ReferenceIdeal Cert.ReferenceIdeal.Gen

/-- The window sum over rows of ones, padded in front, is the position counted from one. -/
theorem running (x : IVec S8x2048 32) (hx : ∀ i, x i = 1#32) (init : IVec S_ 32) (hi : init (Shape.Idx.first h_S_) = 0#32)
    (h : S8x2048.ReduceWindows (![1, 2048] : Fin 2 → Nat) ![1, 1] ![0, 2047] ![0, 0] S8x2048) (b : Fin 8) (t : Fin 2048) :
    Host.reduceWindow IntOp.addi ![1, 2048] ![1, 1] ![0, 2047] ![0, 0] x init h h_S_ (ix2 b t) = BitVec.ofNat 32 (t.val + 1) := by
  have ht := t.isLt
  have hb := b.isLt
  unfold Host.reduceWindow
  refine (Routing.foldl_addi_ofNat _ _ (fun n => if 2047 ≤ t.val + n.val then 1 else 0) (fun n _ => ?_) _ 0 hi).trans ?_
  · have hw0 : ((Routing.shape2 1 2048).rowMajor.symm n 0).val = 0 := by rw [Routing.symm2]; rfl
    have hw : ((Routing.shape2 1 2048).rowMajor.symm n 1).val = n.val := by rw [Routing.symm2]; rfl
    have hn : n.val < 2048 := (n.cast (Routing.numel2 2048)).isLt
    dsimp only
    split
    · next hin =>
      have h1 := hin 1
      change 2047 ≤ t.val * 1 + ((Routing.shape2 1 2048).rowMajor.symm n 1).val
        ∧ t.val * 1 + ((Routing.shape2 1 2048).rowMajor.symm n 1).val - 2047 < 2048 at h1
      rw [hw] at h1
      rw [if_pos (by omega)]
      exact hx _
    · next hin =>
      rw [if_neg fun hle => hin fun a => by
        match a with
        | ⟨0, _⟩ =>
          show 0 ≤ b.val * 1 + ((Routing.shape2 1 2048).rowMajor.symm n 0).val
            ∧ b.val * 1 + ((Routing.shape2 1 2048).rowMajor.symm n 0).val - 0 < 8
          rw [hw0]
          omega
        | ⟨1, _⟩ =>
          show 2047 ≤ t.val * 1 + ((Routing.shape2 1 2048).rowMajor.symm n 1).val
            ∧ t.val * 1 + ((Routing.shape2 1 2048).rowMajor.symm n 1).val - 2047 < 2048
          rw [hw]
          omega]
      exact hi
  · rw [Nat.zero_add, Routing.map_finRange_val _ (fun w => if 2047 ≤ t.val + w then 1 else 0)]
    refine congrArg (BitVec.ofNat 32) ((congrArg (fun M => ((List.range M).map fun w => if 2047 ≤ t.val + w then 1 else 0).sum)
      (Routing.numel2 2048)).trans ((Routing.sum_window (fun _ => 1) 2047 t.val (by omega)).trans ?_))
    simp

/-- A position's word is not negative, so the wrap of negative positions leaves it. -/
theorem wrap (t : Fin 2048) (a : BitVec 32) :
    Scalar.select (IntOp.cmpi .slt (BitVec.ofNat 32 t.val) 0#32) a (BitVec.ofNat 32 t.val) = BitVec.ofNat 32 t.val := by
  have h : (BitVec.ofNat 32 t.val).toInt = t.val := Block.toInt_small _ t.isLt
  unfold Scalar.select IntOp.cmpi
  simp only
  have e : (BitVec.ofNat 32 t.val).slt 0#32 = false := by
    rw [BitVec.slt, h]
    simp
  rw [e]
  rfl

/-- A position's word is at least zero. -/
theorem at_least (t : Fin 2048) : IntOp.cmpi .sge (BitVec.ofNat 32 t.val) 0#32 = 1#1 := by
  have h : (BitVec.ofNat 32 t.val).toInt = t.val := Block.toInt_small _ t.isLt
  unfold IntOp.cmpi
  simp only
  have e : (0#32).sle (BitVec.ofNat 32 t.val) = true := by
    rw [BitVec.sle, h]
    simp
  rw [e]
  rfl

/-- A position's word is at most the last position. -/
theorem at_most (t : Fin 2048) : IntOp.cmpi .sle (BitVec.ofNat 32 t.val) 2047#32 = 1#1 := by
  have h : (BitVec.ofNat 32 t.val).toInt = t.val := Block.toInt_small _ t.isLt
  unfold IntOp.cmpi
  simp only
  have e : (BitVec.ofNat 32 t.val).sle 2047#32 = true := by
    rw [BitVec.sle, h]
    have := t.isLt
    simp
    omega
  rw [e]
  rfl

/-- A table that holds every position passes the range test everywhere. -/
theorem in_range (idx z l : IVec S8x2048x1 32) (hidx : ∀ (b : Fin 8) (t : Fin 2048), idx (ix3 b t 0) = BitVec.ofNat 32 t.val)
    (hz : ∀ i, z i = 0#32) (hl : ∀ i, l i = 2047#32) (j : S8x2048.Idx) :
    Host.reduce IntOp.andi (andi (cmpi .sge idx z) (cmpi .sle idx l)) (constantI S_ 1 1#1) reducesTo_S8x2048x1_S8x2048_d2 h_S_ j = 1#1 := by
  refine Host.reduce_andi_one _ _ _ _ j rfl fun i => ?_
  have hi : i = ix3 (i 0) (i 1) 0 := funext fun a => by
    match a with
    | ⟨0, _⟩ => rfl
    | ⟨1, _⟩ => rfl
    | ⟨2, _⟩ => exact Fin.ext (by have : (i 2).val < 1 := (i 2).isLt; show (i 2).val = 0; omega)
  have hw : idx i = BitVec.ofNat 32 (i 1).val := (congrArg idx hi).trans (hidx (i 0) (i 1))
  show IntOp.andi (IntOp.cmpi .sge (idx i) (z i)) (IntOp.cmpi .sle (idx i) (l i)) = 1#1
  rw [hz, hl, hw, at_least (i 1), at_most (i 1)]
  rfl

/-- Rows gathered along the identity table. -/
theorem take_rows {α : Type} (x : S8x2048x2048.Idx → α) (idx : IVec S8x2048x1 32)
    (b : Fin 8) (t d : Fin 2048) (h : idx (ix3 b t 0) = BitVec.ofNat 32 t.val) :
    Host.gather gather_S8x2048x2048_S8x2048x1_S8x2048x2048_2_1_0_0_1_2_112048 x idx (ix3 b t d) = x (ix3 b t d) := by
  have ht := t.isLt
  have w : (BitVec.ofNat 32 t.val).toInt = t.val := Block.toInt_small _ t.isLt
  unfold Host.gather
  refine congrArg x (funext fun a => Fin.ext ?_)
  match a with
  | ⟨0, _⟩ =>
    show 0 + b.val + 0 = b.val
    omega
  | ⟨1, _⟩ =>
    show min (idx _).toInt.toNat (2048 - 1) + 0 + 0 = t.val
    have e : ∀ i, i = ix3 b t 0 → min (idx i).toInt.toNat (2048 - 1) + 0 + 0 = t.val := by
      rintro _ rfl
      rw [h, w]
      omega
    refine e _ (funext fun a => ?_)
    match a with
    | ⟨0, _⟩ => rfl
    | ⟨1, _⟩ => rfl
    | ⟨2, _⟩ => rfl
  | ⟨2, _⟩ =>
    show 0 + 0 + d.val = d.val
    omega

/-- Entries gathered along the identity table. -/
theorem take_entries {α : Type} (x : S8x2048.Idx → α) (idx : IVec S8x2048x1 32)
    (b : Fin 8) (t : Fin 2048) (h : idx (ix3 b t 0) = BitVec.ofNat 32 t.val) :
    Host.gather gather_S8x2048_S8x2048x1_S8x2048_n_1_0_0_1_2_11 x idx (ix2 b t) = x (ix2 b t) := by
  have ht := t.isLt
  have w : (BitVec.ofNat 32 t.val).toInt = t.val := Block.toInt_small _ t.isLt
  unfold Host.gather
  refine congrArg x (funext fun a => Fin.ext ?_)
  match a with
  | ⟨0, _⟩ =>
    show 0 + b.val + 0 = b.val
    omega
  | ⟨1, _⟩ =>
    show min (idx _).toInt.toNat (2048 - 1) + 0 + 0 = t.val
    have e : ∀ i, i = ix3 b t 0 → min (idx i).toInt.toNat (2048 - 1) + 0 + 0 = t.val := by
      rintro _ rfl
      rw [h, w]
      omega
    refine e _ (funext fun a => ?_)
    match a with
    | ⟨0, _⟩ => rfl
    | ⟨1, _⟩ => rfl
    | ⟨2, _⟩ => rfl

/-- A stable sort of ascending keys moves nothing: the positions come back in order. -/
theorem sorted (x : IVec S8x2048 32) (y : IVec S8x2048 32) (hx : ∀ (b : Fin 8) (t : Fin 2048), x (ix2 b t) = BitVec.ofNat 32 t.val)
    (b : Fin 8) (t : Fin 2048) :
    (Host.sort2 S8x2048 1 comparator_i32_i32_d1 x y).2 (ix2 b t) = y (ix2 b t) := by
  unfold Host.sort2
  rw [dif_pos (by decide : 1 < S8x2048.rank)]
  have hal : ∀ k : Fin 2048, (ix2 b t : S8x2048.Idx).along (1 : Fin 2) k = ix2 b k := fun k => by
    funext a
    match a with
    | ⟨0, _⟩ => rfl
    | ⟨1, _⟩ => rfl
  have key : ∀ B : Fin 2048 → Fin 2048 → Bool, (∀ k k', B k k' = decide (k.val < k'.val)) → sortedFrom B t = t := fun B hB => by
    rw [show B = fun k k' => decide (k.val < k'.val) from funext fun k => funext fun k' => hB k k']
    refine (Routing.sortedFrom_eq (fun k : Fin 2048 => k.val) (fun _ _ e => Fin.ext e) (List.finRange 2048) (List.Perm.refl _)
      (List.pairwise_lt_finRange 2048) t (by rw [List.length_finRange]; exact t.isLt)).trans ?_
    rw [List.getElem_finRange]
    rfl
  have at_t : ∀ k : Fin 2048, k = t → y ((ix2 b t : S8x2048.Idx).along (1 : Fin 2) k) = y (ix2 b t) := by
    rintro _ rfl
    exact congrArg y (hal _)
  have cmp : ∀ k k' : Fin 2048, (comparator_i32_i32_d1 (x ((ix2 b t : S8x2048.Idx).along (1 : Fin 2) k), y ((ix2 b t : S8x2048.Idx).along (1 : Fin 2) k))
      (x ((ix2 b t : S8x2048.Idx).along (1 : Fin 2) k'), y ((ix2 b t : S8x2048.Idx).along (1 : Fin 2) k')) == 1#1) = decide (k.val < k'.val) := by
    intro k k'
    have h1 : (BitVec.ofNat 32 k.val).toInt = k.val := Block.toInt_small _ k.isLt
    have h2 : (BitVec.ofNat 32 k'.val).toInt = k'.val := Block.toInt_small _ k'.isLt
    rw [hal, hal]
    unfold comparator_i32_i32_d1 IntOp.cmpi
    simp only [hx]
    rw [BitVec.slt, h1, h2]
    by_cases hlt : k.val < k'.val
    · simp [hlt]
    · simp [hlt]
  exact at_t _ (key _ cmp)

end Cert.Reads

end
-- ==== Proof.RefLoop.lean ====
/-
  What the reference's loop leaves. Before trip `k` its counter is `k`, the row it carries is the average after `k`
  steps, and the first `k` rows of the array it fills are the averages after steps `1 … k`.
-/
module

public import proofs.«01_k».proof.Proof.Gen.ReferenceIdeal.Run
public import proofs.«01_k».proof.Proof.Result
public import proofs.«01_k».proof.Proof.Block
public import Idealize.ShloMosaic.Lib.WordCmp

@[expose] public section

set_option maxRecDepth 16384

noncomputable section

namespace Cert.RefLoop

open Idealize.ShloMosaic Idealize.ShloMosaic.Pointwise Idealize.ShloMosaic.TcCoe
open Cert.ReferenceIdeal Cert.ReferenceIdeal.Gen Cert.ReferenceIdeal.Value
open Cert.Ema (clip ema)
open Cert.Result

variable (X : (⟨3, ![8, 2048, 2048]⟩ : Shape).Idx → EReal) (P : (⟨2, ![8, 2048]⟩ : Shape).Idx → EReal)

/-- What the loop's buffers hold before trip `k`. -/
structure Before (k : ℕ) (V : Valuation τ sig (Elt Ideal)) : Prop where
  probs : ∀ (t : Fin 2048) (b : Fin 8), V (Proc.devRef .tc main_v27_0) (ix2 t b) = clip (probs P b t)
  inputs : ∀ (t : Fin 2048) (b : Fin 8) (d : Fin 2048), V (Proc.devRef .tc main_v27_1) (ix3 t b d) = inputs X b d t
  counter : V (Proc.devRef .tc main_v27_2) = fun _ => BitVec.ofNat 32 k
  row : ∀ (b : Fin 8) (d : Fin 2048), V (Proc.devRef .tc main_v27_3) (ix2 b d) = average X P b d k
  rows : ∀ (t : Fin 2048) (b : Fin 8) (d : Fin 2048), t.val < k → V (Proc.devRef .tc main_v27_4) (ix3 t b d) = average X P b d (t.val + 1)

/-- The row a trip computes. -/
theorem row_step {k : ℕ} (hk : k < 2048) {V : Valuation τ sig (Elt Ideal)} (h : Before X P k V) (b : Fin 8) (d : Fin 2048) :
    (res_main_while0b_v60 V : Vec Ideal S8x2048 .f32) (ix2 b d) = average X P b d (k + 1) := by
  have e0 := h.probs ⟨k, hk⟩ b
  have e1 := h.inputs ⟨k, hk⟩ b d
  have e3 := h.row b d
  have w := Block.toInt_small k hk
  unfold res_main_while0b_v60 res_main_while0b_v50
  rw [h.counter]
  pointwise
  have c0 : (min (max (BitVec.ofNat 32 k).toInt 0) ((2048 - 1 : ℕ) : ℤ)).toNat = k := by
    rw [w]
    omega
  have q0 : ∀ (u : Fin 2048) (v : Fin 8), u.val = k → v.val = 0 + b.val → V (Proc.devRef .tc main_v27_0) (ix2 u v) = clip (Result.probs P b k) := by
    intro u v hu hv
    rw [show u = ⟨k, hk⟩ from Fin.ext hu, show v = b from Fin.ext (hv.trans (Nat.zero_add _))]
    exact e0
  have q1 : ∀ (u : Fin 2048) (v : Fin 8) (z : Fin 2048), u.val = k → v.val = 0 + b.val → z.val = 0 + d.val →
      V (Proc.devRef .tc main_v27_1) (ix3 u v z) = Result.inputs X b d k := by
    intro u v z hu hv hz
    rw [show u = ⟨k, hk⟩ from Fin.ext hu, show v = b from Fin.ext (hv.trans (Nat.zero_add _)), show z = d from Fin.ext (hz.trans (Nat.zero_add _))]
    exact e1
  exact congrArg₂ (fun x y : EReal => x + y) (congrArg₂ (fun x y : EReal => x * y) (congrArg (fun x : EReal => 1 - x) (q0 _ _ c0 rfl)) e3)
    (congrArg₂ (fun x y : EReal => x * y) (q0 _ _ c0 rfl) (q1 _ _ _ c0 rfl rfl))

/-- Row `k` lies inside the array the loop fills. -/
theorem fits {k : ℕ} (hk : k < 2048) : S2048x8x2048.Slices ![k, 0, 0] S1x8x2048 :=
  ⟨rfl, fun a => match a with
    | ⟨0, _⟩ => hk
    | ⟨1, _⟩ => Nat.le_refl 8
    | ⟨2, _⟩ => Nat.le_refl 2048⟩

/-- An array with row `k` replaced, at an index. -/
theorem update_read (x : S2048x8x2048.Idx → EReal) (u : S1x8x2048.Idx → EReal) (k : ℕ) (h : S2048x8x2048.Slices ![k, 0, 0] S1x8x2048)
    (t : Fin 2048) (b : Fin 8) (d : Fin 2048) :
    updateSlice x u ![k, 0, 0] h (ix3 t b d) = if t.val = k then u (ix3 0 b d) else x (ix3 t b d) := by
  by_cases e : t.val = k
  · rw [if_pos e]
    refine (dif_pos fun a => ?_).trans (congrArg u (funext fun a => ?_))
    · match a with
      | ⟨0, _⟩ => exact ⟨(e.symm.le : k ≤ t.val), (by omega : t.val < k + 1)⟩
      | ⟨1, _⟩ => exact ⟨Nat.zero_le _, (by omega : b.val < 0 + 8)⟩
      | ⟨2, _⟩ => exact ⟨Nat.zero_le _, (by omega : d.val < 0 + 2048)⟩
    · match a with
      | ⟨0, _⟩ => exact Fin.ext (by show t.val - k = 0; omega)
      | ⟨1, _⟩ => rfl
      | ⟨2, _⟩ => rfl
  · rw [if_neg e]
    refine dif_neg fun hin => e ?_
    have h1 : k ≤ t.val := (hin (0 : Fin 3)).1
    have h2 : t.val < k + 1 := (hin (0 : Fin 3)).2
    omega

/-- One trip takes what holds before trip `k` to what holds before trip `k + 1`. -/
theorem step {k : ℕ} (hk : k < 2048) {V : Valuation τ sig (Elt Ideal)} (h : Before X P k V) : Before X P (k + 1) (STEP V) where
  probs t b := by rw [STEP_main_v27_0]; exact h.probs t b
  inputs t b d := by rw [STEP_main_v27_1]; exact h.inputs t b d
  counter := by
    rw [STEP_main_v27_2, step_main_v27_2, h.counter]
    funext i
    exact (BitVec.ofNat_add k 1).symm
  row b d := by rw [STEP_main_v27_3]; exact row_step X P hk h b d
  rows t b d ht := by
    have w := Block.toInt_small k hk
    have hf := fits hk
    rw [STEP_main_v27_4, step_main_v27_4, h.counter, id_eq]
    refine (congrFun (WordCmp.dynamicUpdateSlice_eq_update (s := S2048x8x2048) (u := S1x8x2048) _ _ _ _ ![k, 0, 0] hf ?_) (ix3 t b d)).trans ?_
    · intro a
      match a with
      | ⟨0, _⟩ => exact w
      | ⟨1, _⟩ => rfl
      | ⟨2, _⟩ => rfl
    · rw [update_read]
      by_cases e : t.val = k
      · rw [if_pos e, e]
        pointwise
        exact row_step X P hk h b d
      · rw [if_neg e]
        exact h.rows t b d (by omega)

/-- Before trip `k ≤ 2048` of the loop, when it starts from what holds before trip 0. -/
theorem iterate {V : Valuation τ sig (Elt Ideal)} (h : Before X P 0 V) : ∀ k ≤ 2048, Before X P k (STEP^[k] V)
  | 0, _ => h
  | k + 1, hk => by
    rw [Function.iterate_succ_apply']
    exact step X P hk (iterate h k (Nat.le_of_succ_le hk))

end Cert.RefLoop
-- ==== Proof.RefEntry.lean ====
/-
  What the reference's loop starts from when every position starts a chunk. The sort that moves chunk starts to the front
  moves nothing, so the loop gets the clamped probabilities and, the scaling by the step and back being undone, the inputs
  themselves.
-/
module

public import proofs.«01_k».proof.Proof.Gen.ReferenceIdeal.Run
public import proofs.«01_k».proof.Proof.Reads
public import proofs.«01_k».proof.Proof.RefLoop

@[expose] public section

set_option maxRecDepth 16384

noncomputable section

namespace Cert.RefEntry

open Idealize.ShloMosaic Idealize.ShloMosaic.Pointwise Idealize.ShloMosaic.TcCoe Idealize.ShloMosaic.StableHlo
open Cert.ReferenceIdeal Cert.ReferenceIdeal.Gen Cert.ReferenceIdeal.Value
open Cert.Ema (clip)

/-- The clamp of an array, at an index. -/
theorem clamp (x : FVec Ideal S8x2048 .f32) (b : Fin 8) (t : Fin 2048) :
    minimumf (broadcastInDim S8x2048 ![] bcast_S_S8x2048 (id (constant (F := Ideal) S_ .f32 0x3F7FF972#32)))
      (maximumf (broadcastInDim S8x2048 ![] bcast_S_S8x2048 (id (constant (F := Ideal) S_ .f32 0x38D1B717#32))) x) (ix2 b t) = clip (x (ix2 b t)) := by
  rw [id_eq, id_eq]
  pointwise
  rfl

/-- The first clamp. -/
theorem clamped (V : Valuation τ sig (Elt Ideal)) (b : Fin 8) (t : Fin 2048) :
    (after hostOps0_1 (after hostOps0 V) (Proc.devRef .tc main_v0) : FVec Ideal S8x2048 .f32) (ix2 b t)
      = clip ((V (Proc.devRef .tc main_arg2) : FVec Ideal S8x2048 .f32) (ix2 b t)) := by
  have e : after hostOps0_1 (after hostOps0 V) (Proc.devRef .tc main_v0)
      = minimumf (broadcastInDim S8x2048 ![] bcast_S_S8x2048 (id (constant (F := Ideal) S_ .f32 0x3F7FF972#32)))
        (maximumf (broadcastInDim S8x2048 ![] bcast_S_S8x2048 (id (constant (F := Ideal) S_ .f32 0x38D1B717#32))) (V (Proc.devRef .tc main_arg2))) := by
    simp only [hostOps0_1, hostOps0]
    after_results_simp
    simp only [cast_eq]
  rw [e]
  exact clamp _ b t

/-- The second clamp. -/
theorem clamped_again (V : Valuation τ sig (Elt Ideal)) (b : Fin 8) (t : Fin 2048) :
    (after hostOps0_6 (after hostOps0_5 V) (Proc.devRef .tc main_v11) : FVec Ideal S8x2048 .f32) (ix2 b t)
      = clip ((V (Proc.devRef .tc main_v10) : FVec Ideal S8x2048 .f32) (ix2 b t)) := by
  have e : after hostOps0_6 (after hostOps0_5 V) (Proc.devRef .tc main_v11)
      = minimumf (broadcastInDim S8x2048 ![] bcast_S_S8x2048 (id (constant (F := Ideal) S_ .f32 0x3F7FF972#32)))
        (maximumf (broadcastInDim S8x2048 ![] bcast_S_S8x2048 (id (constant (F := Ideal) S_ .f32 0x38D1B717#32))) (V (Proc.devRef .tc main_v10))) := by
    simp only [hostOps0_6, hostOps0_5]
    after_results_simp
    simp only [cast_eq]
  rw [e]
  exact clamp _ b t

/-- The sort's keys are the positions. -/
theorem keys (V : Valuation τ sig (Elt Ideal)) (hB : ∀ i, (V (Proc.devRef .tc main_arg1) : IVec S8x2048 1) i = 1#1) (b : Fin 8) (t : Fin 2048) :
    (after hostOps0_2 V (Proc.devRef .tc main_v8) : IVec S8x2048 32) (ix2 b t) = BitVec.ofNat 32 t.val := by
  simp only [hostOps0_2]
  after_results_simp
  generalize V (Proc.devRef .tc main_arg1) = B at hB
  pointwise
  have q : ∀ w : BitVec 1, w = 1#1 → IntOp.addi (BitVec.ofNat 32 t.val) (IntOp.muli (BitVec.setWidth 32 (~~~w)) 2048#32) = BitVec.ofNat 32 t.val := by
    rintro _ rfl
    exact BitVec.add_zero _
  exact q _ (hB _)

/-- The sort's order is the positions' own. -/
theorem order (V : Valuation τ sig (Elt Ideal))
    (hk : ∀ (b : Fin 8) (t : Fin 2048), (V (Proc.devRef .tc main_v8) : IVec S8x2048 32) (ix2 b t) = BitVec.ofNat 32 t.val) (b : Fin 8) (t : Fin 2048) :
    (after hostOps0_3 V (Proc.devRef .tc main_v9) : IVec S8x2048 32) (ix2 b t) = BitVec.ofNat 32 t.val := by
  have e : after hostOps0_3 V (Proc.devRef .tc main_v9)
      = (Host.sort2 S8x2048 1 comparator_i32_i32_d1 (V (Proc.devRef .tc main_v8)) (iotaInDim S8x2048 32 1)).2 := by
    simp only [hostOps0_3]
    after_results_simp
    simp only [cast_eq]
  rw [e]
  exact (Reads.sorted _ _ hk b t).trans rfl

/-- Entries gathered along the identity table, with its range test, are the entries. -/
theorem picked (idx z l : IVec S8x2048x1 32) (hidx : ∀ (b : Fin 8) (t : Fin 2048), idx (ix3 b t 0) = BitVec.ofNat 32 t.val)
    (hz : ∀ i, z i = 0#32) (hl : ∀ i, l i = 2047#32) (x nan : FVec Ideal S8x2048 .f32) (b : Fin 8) (t : Fin 2048) :
    select (Host.reduce IntOp.andi (andi (cmpi .sge idx z) (cmpi .sle idx l)) (constantI S_ 1 1#1) reducesTo_S8x2048x1_S8x2048_d2 h_S_)
      (Host.gather gather_S8x2048_S8x2048x1_S8x2048_n_1_0_0_1_2_11 x idx) nan (ix2 b t) = x (ix2 b t) := by
  have hone := Reads.in_range idx z l hidx hz hl
  have hg := Reads.take_entries x idx b t (hidx b t)
  generalize Host.gather gather_S8x2048_S8x2048x1_S8x2048_n_1_0_0_1_2_11 x idx = got at hg ⊢
  generalize Host.reduce IntOp.andi (andi (cmpi .sge idx z) (cmpi .sle idx l)) (constantI S_ 1 1#1) reducesTo_S8x2048x1_S8x2048_d2 h_S_ = mask at hone ⊢
  rw [← hg]
  pointwise
  rw [hone]
  rfl

/-- A table of positions, negative ones wrapped, as a column of index vectors. -/
theorem column (p : IVec S8x2048 32) (hp : ∀ (b : Fin 8) (t : Fin 2048), p (ix2 b t) = BitVec.ofNat 32 t.val) (z n : IVec S8x2048 32) (hz : ∀ i, z i = 0#32)
    (h : S8x2048.ShapeCasts S8x2048x1) (b : Fin 8) (t : Fin 2048) :
    shapeCast S8x2048x1 (select (cmpi .slt p z) (addi p n) p) h (ix3 b t 0) = BitVec.ofNat 32 t.val := by
  have e : shapeCast S8x2048x1 (select (cmpi .slt p z) (addi p n) p) h (ix3 b t 0) = (select (cmpi .slt p z) (addi p n) p) (ix2 b t) := by
    generalize select (cmpi .slt p z) (addi p n) p = v
    pointwise
  rw [e]
  pointwise
  rw [hz, hp]
  exact Reads.wrap t _

set_option maxHeartbeats 1000000 in
/-- The gather that applies the sort's order changes nothing. -/
theorem taken (V : Valuation τ sig (Elt Ideal))
    (hp : ∀ (b : Fin 8) (t : Fin 2048), (V (Proc.devRef .tc main_v9) : IVec S8x2048 32) (ix2 b t) = BitVec.ofNat 32 t.val) (b : Fin 8) (t : Fin 2048) :
    (after hostOps0_4 V (Proc.devRef .tc main_v10) : FVec Ideal S8x2048 .f32) (ix2 b t) = (V (Proc.devRef .tc main_v0) : FVec Ideal S8x2048 .f32) (ix2 b t) := by
  simp only [hostOps0_4]
  after_results_simp
  simp only [cast_eq]
  generalize V (Proc.devRef .tc main_v9) = p at hp ⊢
  generalize V (Proc.devRef .tc main_v0) = x
  exact picked _ _ _ (column p hp _ _ (fun _ => rfl) _) (fun _ => rfl) (fun _ => rfl) x _ b t

/-- The probabilities the loop gets. -/
theorem loop_probs (V : Valuation τ sig (Elt Ideal)) (b : Fin 8) (t : Fin 2048) :
    (after hostOps0_7 V (Proc.devRef .tc main_v27_0) : FVec Ideal S2048x8 .f32) (ix2 t b) = (V (Proc.devRef .tc main_v11) : FVec Ideal S8x2048 .f32) (ix2 b t) := by
  simp only [hostOps0_7]
  after_results_simp
  rw [id_eq]
  generalize V (Proc.devRef .tc main_v11) = x
  pointwise

/-- The inputs the loop gets: scaled by the step and back, so the inputs themselves. -/
theorem loop_inputs (V : Valuation τ sig (Elt Ideal)) {p : EReal} (b : Fin 8) (t d : Fin 2048)
    (hp : (V (Proc.devRef .tc main_v11) : FVec Ideal S8x2048 .f32) (ix2 b t) = clip p) :
    (after hostOps0_7 V (Proc.devRef .tc main_v27_1) : FVec Ideal S2048x8x2048 .f32) (ix3 t b d)
      = (V (Proc.devRef .tc main_arg0) : FVec Ideal S8x2048x2048 .f32) (ix3 b t d) := by
  simp only [hostOps0_7]
  after_results_simp
  rw [id_eq]
  generalize V (Proc.devRef .tc main_v11) = x at hp ⊢
  generalize V (Proc.devRef .tc main_arg0) = y
  obtain ⟨q, hq, h0, h1⟩ := Ema.clip_real p
  pointwise
  have k : ∀ w v : EReal, w = clip p → Ideal.div v (Ideal.log (Ideal.div 1 (1 - w))) * Ideal.log (Ideal.div 1 (1 - w)) = v := by
    rintro _ v rfl
    rw [hq]
    exact Ema.div_mul_dt h0 h1 v
  exact k _ _ hp

/-- The average the loop starts from is zero. -/
theorem loop_row (V : Valuation τ sig (Elt Ideal)) (b : Fin 8) (d : Fin 2048) :
    (after hostOps0_7 V (Proc.devRef .tc main_v27_3) : FVec Ideal S8x2048 .f32) (ix2 b d) = (0 : EReal) := by
  simp only [hostOps0_7]
  after_results_simp
  rw [id_eq]
  pointwise

/-- Computing the sort's keys leaves the clamped probabilities. -/
theorem kept_0_2 (V : Valuation τ sig (Elt Ideal)) : after hostOps0_2 V (Proc.devRef .tc main_v0) = V (Proc.devRef .tc main_v0) :=
  after_of_writes_sub hostOps0_2 V hostOps0_2_writes (by decide +kernel)

/-- The sort leaves the clamped probabilities. -/
theorem kept_0_3 (V : Valuation τ sig (Elt Ideal)) : after hostOps0_3 V (Proc.devRef .tc main_v0) = V (Proc.devRef .tc main_v0) :=
  after_of_writes_sub hostOps0_3 V hostOps0_3_writes (by decide +kernel)

variable (m : (ℓ : Loc nD τ sig) → Buf (Elt Ideal) ℓ) (c : Dev nD)

/-- The loop's buffers before its first trip. -/
theorem entry (hB : ∀ i, (m ((c : Thread nD τ).loc main_arg1) : IVec S8x2048 1) i = 1#1) :
    RefLoop.Before (m ((c : Thread nD τ).loc main_arg0)) (m ((c : Thread nD τ).loc main_arg2)) 0 (entryContents preI m c) := by
  have e : entryContents preI m c = after hostOps0_7 (after hostOps0_6 (after hostOps0_5 (after hostOps0_4 (after hostOps0_3 (after hostOps0_2
    (after hostOps0_1 (after hostOps0 (launchContents m c)))))))) := by
    simp only [entryContents, afterL_cons, afterL_nil]
  have hv : ∀ (b : Fin 8) (t : Fin 2048), (after hostOps0_6 (after hostOps0_5 (after hostOps0_4 (after hostOps0_3 (after hostOps0_2
      (after hostOps0_1 (after hostOps0 (launchContents m c))))))) (Proc.devRef .tc main_v11) : FVec Ideal S8x2048 .f32) (ix2 b t)
      = clip ((m ((c : Thread nD τ).loc main_arg2) : FVec Ideal S8x2048 .f32) (ix2 b t)) := fun b t => by
    refine (clamped_again _ b t).trans ?_
    refine (congrArg clip ?_).trans (Ema.clip_clip _)
    refine (taken _ (order _ (keys _ fun i => ?_)) b t).trans ?_
    · rw [keep_main_arg1_hostOps0_1, keep_main_arg1_hostOps0]
      exact hB i
    · rw [kept_0_3, kept_0_2]
      exact clamped (launchContents m c) b t
  refine ⟨fun t b => ?_, fun t b d => ?_, ctr_entry m c, fun b d => ?_, fun t b d ht => absurd ht (Nat.not_lt_zero _)⟩
  · rw [e]
    refine (loop_probs _ b t).trans ((hv b t).trans ?_)
    rw [Result.probs, dif_pos t.isLt]
  · rw [e]
    refine (loop_inputs _ b t d (hv b t)).trans ?_
    rw [keep_main_arg0_hostOps0_6, keep_main_arg0_hostOps0_5, keep_main_arg0_hostOps0_4, keep_main_arg0_hostOps0_3, keep_main_arg0_hostOps0_2,
      keep_main_arg0_hostOps0_1, keep_main_arg0_hostOps0, Result.inputs, dif_pos t.isLt]
  · rw [e]
    exact loop_row _ b d

end Cert.RefEntry

end
-- ==== Proof.RefPost.lean ====
/-
  What the reference returns from what its loop leaves, when every position starts a chunk: the array the loop filled,
  batch first.
-/
module

public import proofs.«01_k».proof.Proof.Gen.ReferenceIdeal.Run
public import proofs.«01_k».proof.Proof.Reads

@[expose] public section

set_option maxRecDepth 16384

noncomputable section

namespace Cert.RefPost

open Idealize.ShloMosaic Idealize.ShloMosaic.Pointwise Idealize.ShloMosaic.TcCoe
open Cert.ReferenceIdeal Cert.ReferenceIdeal.Gen Cert.ReferenceIdeal.Value

/-- The table of positions the last gather reads: the running count less one, which at position `t` is `t`. -/
theorem table (B : IVec S8x2048 1) (hB : ∀ i, B i = 1#1) (b : Fin 8) (t : Fin 2048) :
    (subi (Host.reduceWindow IntOp.addi ![1, 2048] ![1, 1] ![0, 2047] ![0, 0] (extui 32 B natLt_1_32) (constantI S_ 32 0#32)
      reduceWindows_S8x2048_S8x2048_w1s1p0_0_w2048s1p2047_0 h_S_) (broadcastInDim S8x2048 ![] bcast_S_S8x2048 (constantI S_ 32 1#32))) (ix2 b t)
      = BitVec.ofNat 32 t.val := by
  have h := Reads.running (extui 32 B natLt_1_32) (fun i => by show (B i).setWidth 32 = 1#32; rw [hB]; rfl) (constantI S_ 32 0#32) rfl
    reduceWindows_S8x2048_S8x2048_w1s1p0_0_w2048s1p2047_0 b t
  refine (congrArg (fun w => w - 1#32) h).trans ?_
  have e : BitVec.ofNat 32 (t.val + 1) = BitVec.ofNat 32 t.val + 1#32 := BitVec.ofNat_add t.val 1
  show BitVec.ofNat 32 (t.val + 1) - 1#32 = BitVec.ofNat 32 t.val
  rw [e]
  exact BitVec.add_sub_cancel _ _

/-- Gathering rows along the identity table, with the test that every entry of the table is in range, leaves the rows. -/
theorem gathered (p : IVec S8x2048 32) (hp : ∀ (b : Fin 8) (t : Fin 2048), p (ix2 b t) = BitVec.ofNat 32 t.val)
    (rows : FVec Ideal S8x2048x2048 .f32) (nan : FVec Ideal S8x2048x2048 .f32) (z n : IVec S8x2048 32) (hz : ∀ i, z i = 0#32)
    (z1 l1 : IVec S8x2048x1 32) (hz1 : ∀ i, z1 i = 0#32) (hl1 : ∀ i, l1 i = 2047#32) (b : Fin 8) (t d : Fin 2048) :
    select (broadcastInDim S8x2048x2048 ![0, 1] bcast_S8x2048_S8x2048x2048_0_1
      (Host.reduce IntOp.andi (andi (cmpi .sge (broadcastInDim S8x2048x1 ![0, 1] bcast_S8x2048_S8x2048x1_0_1 (select (cmpi .slt p z) (addi p n) p)) z1)
        (cmpi .sle (broadcastInDim S8x2048x1 ![0, 1] bcast_S8x2048_S8x2048x1_0_1 (select (cmpi .slt p z) (addi p n) p)) l1))
        (constantI S_ 1 1#1) reducesTo_S8x2048x1_S8x2048_d2 h_S_))
      (Host.gather gather_S8x2048x2048_S8x2048x1_S8x2048x2048_2_1_0_0_1_2_112048 rows
        (broadcastInDim S8x2048x1 ![0, 1] bcast_S8x2048_S8x2048x1_0_1 (select (cmpi .slt p z) (addi p n) p))) nan (ix3 b t d)
      = rows (ix3 b t d) := by
  have hidx : ∀ (b : Fin 8) (t : Fin 2048), (broadcastInDim S8x2048x1 ![0, 1] bcast_S8x2048_S8x2048x1_0_1 (select (cmpi .slt p z) (addi p n) p)) (ix3 b t 0)
      = BitVec.ofNat 32 t.val := fun b t => by
    pointwise
    rw [hz, hp]
    exact Reads.wrap t _
  generalize (broadcastInDim S8x2048x1 ![0, 1] bcast_S8x2048_S8x2048x1_0_1 (select (cmpi .slt p z) (addi p n) p)) = idx at hidx ⊢
  have hone := Reads.in_range idx z1 l1 hidx hz1 hl1
  have hg := Reads.take_rows rows idx b t d (hidx b t)
  generalize Host.gather gather_S8x2048x2048_S8x2048x1_S8x2048x2048_2_1_0_0_1_2_112048 rows idx = got at hg ⊢
  generalize Host.reduce IntOp.andi (andi (cmpi .sge idx z1) (cmpi .sle idx l1)) (constantI S_ 1 1#1) reducesTo_S8x2048x1_S8x2048_d2 h_S_ = mask at hone ⊢
  rw [← hg]
  pointwise
  rw [hone]
  rfl

/-- The reference's result is what its loop left, batch first. -/
theorem out (V : Valuation τ sig (Elt Ideal)) (hB : ∀ i, (V (Proc.devRef .tc main_arg1) : IVec S8x2048 1) i = 1#1)
    (b : Fin 8) (t d : Fin 2048) :
    (out_main_v49 V : Vec Ideal S8x2048x2048 .f32) (ix3 b t d) = V (Proc.devRef .tc main_v27_4) (ix3 t b d) := by
  unfold out_main_v49
  refine (gathered _ (table (V (Proc.devRef .tc main_arg1)) hB) _ _ _ _ (fun _ => rfl) _ _ (fun _ => rfl) (fun _ => rfl) b t d).trans ?_
  pointwise

end Cert.RefPost

end
-- ==== Proof.RefArray.lean ====
/-
  The reference's result, when every position starts a chunk, is the array of averages.
-/
module

public import proofs.«01_k».proof.Proof.RefEntry
public import proofs.«01_k».proof.Proof.RefPost

@[expose] public section

set_option maxRecDepth 16384

noncomputable section

namespace Cert.RefArray

open Idealize.ShloMosaic Idealize.ShloMosaic.Pointwise Idealize.ShloMosaic.TcCoe Idealize.ShloMosaic.StableHlo
open Cert.ReferenceIdeal Cert.ReferenceIdeal.Gen Cert.ReferenceIdeal.Value
open Cert.Result

variable (m : (ℓ : Loc nD τ sig) → Buf (Elt Ideal) ℓ) (c : Dev nD)

/-- The result the reference ends with. -/
theorem array_eq (hB : ∀ i, (m ((c : Thread nD τ).loc main_arg1) : IVec S8x2048 1) i = 1#1) :
    out_main_v49 (STEP^[2048] (entryContents preI m c)) = result (m ((c : Thread nD τ).loc main_arg0)) (m ((c : Thread nD τ).loc main_arg2)) := by
  have hl := RefLoop.iterate _ _ (RefEntry.entry m c hB) 2048 (Nat.le_refl _)
  have h1 : ∀ i, (STEP^[2048] (entryContents preI m c) (Proc.devRef .tc main_arg1) : IVec S8x2048 1) i = 1#1 := fun i =>
    (congrFun (iter_main_arg1 m c 2048) i).trans (hB i)
  generalize STEP^[2048] (entryContents preI m c) = V at hl h1 ⊢
  funext i
  have hi : i = ix3 (i 0) (i 1) (i 2) := funext fun a => by
    match a with
    | ⟨0, _⟩ => rfl
    | ⟨1, _⟩ => rfl
    | ⟨2, _⟩ => rfl
  refine (congrArg (out_main_v49 V) hi).trans ((RefPost.out V h1 (i 0) (i 1) (i 2)).trans ?_)
  exact hl.rows (i 1) (i 0) (i 2) (i 1).isLt

end Cert.RefArray

end
-- ==== Proof.lean ====
/-
  The certificate's claims, proved: both programs run and leave their arguments and counters alone, and where every
  position starts a chunk they end with the same array, the exponential moving average after each step.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.KernelArray
public import proofs.«01_k».proof.Proof.RefArray
public import Idealize.ShloMosaic.Adequacy
public import Idealize.ShloMosaic.Init
public import Idealize.ShloMosaic.Lib.Quiescent

@[expose] public section

noncomputable section

namespace Cert.Proof

open Idealize.ShloMosaic Idealize.SL.Sem

/-- The precondition states no side condition. -/
theorem pre_facts : Cert.Pre_all_boundaries.Facts := {}

/-- The reference runs, leaves its arguments alone and, having no semaphore, ends with every counter zero. -/
theorem reference_runs (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- Where every position starts a chunk, the kernel and the reference end with the same array. -/
theorem same_array : algebraic_KernelIdeal_ReferenceIdeal_pre_all_boundaries (hPre_all_boundaries := pre_facts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, -⟩ := hagree c
  have hB : m' ((c.tc : Thread Cert.ReferenceIdeal.nD Cert.ReferenceIdeal.τ).loc Cert.ReferenceIdeal.main_arg1) = fun _ => 1#1 := h1.trans (hpre c)
  refine (h c).1.trans ((RefArray.array_eq m' c (congrFun hB)).trans (Eq.trans ?_ (KernelArray.array_eq m c).symm))
  exact congrArg₂ Result.result h0 h2

/-- Every claim. -/
theorem claim : Cert.Claim :=
  ⟨Cert.Kernel.Gen.facts, Cert.KernelIdeal.Gen.facts, Cert.ReferenceIdeal.Gen.facts, pre_facts,
    fun m ρ _ => Cert.Kernel.Gen.frame m ρ, fun m ρ _ => Cert.KernelIdeal.Gen.frame m ρ, fun m ρ _ => Cert.KernelIdeal.Gen.frame m ρ,
    fun m ρ _ => reference_runs m ρ, fun m ρ _ => reference_runs m ρ, (trivial : preserves_Kernel_KernelIdeal), same_array⟩

end Cert.Proof

end
